-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.PackStatement Cert.KernelIdeal.S512x128
  ∧ IdealRules.bf16_pair.Statement Cert.KernelIdeal.S512x2x128 Cert.KernelIdeal.S512x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x512x2048 : Shape := ⟨3, ![3, 512, 2048]⟩
abbrev S2048 : Shape := ⟨1, ![2048]⟩
abbrev S1024x5120 : Shape := ⟨2, ![1024, 5120]⟩
abbrev S16x5120 : Shape := ⟨2, ![16, 5120]⟩
abbrev S128 : Shape := ⟨1, ![128]⟩
abbrev S1536x2048 : Shape := ⟨2, ![1536, 2048]⟩
abbrev S1x2048 : Shape := ⟨2, ![1, 2048]⟩
abbrev S1x128 : Shape := ⟨2, ![1, 128]⟩
abbrev S1536x32x128 : Shape := ⟨3, ![1536, 32, 128]⟩
abbrev S1536x4x128 : Shape := ⟨3, ![1536, 4, 128]⟩
abbrev S1024x1024 : Shape := ⟨2, ![1024, 1024]⟩
abbrev S16x1024 : Shape := ⟨2, ![16, 1024]⟩
abbrev S1536x8x128 : Shape := ⟨3, ![1536, 8, 128]⟩
abbrev S2048x1024 : Shape := ⟨2, ![2048, 1024]⟩
abbrev S128x2048 : Shape := ⟨2, ![128, 2048]⟩
abbrev S128x1 : Shape := ⟨2, ![128, 1]⟩
abbrev S64x1024 : Shape := ⟨2, ![64, 1024]⟩
abbrev S64x1x1024 : Shape := ⟨3, ![64, 1, 1024]⟩
abbrev S64x2x1024 : Shape := ⟨3, ![64, 2, 1024]⟩
abbrev S128x1024 : Shape := ⟨2, ![128, 1024]⟩
abbrev S1x1024 : Shape := ⟨2, ![1, 1024]⟩
abbrev S512x2048 : Shape := ⟨2, ![512, 2048]⟩
abbrev S2048x256 : Shape := ⟨2, ![2048, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x1x128 : Shape := ⟨3, ![512, 1, 128]⟩
abbrev S512x2x128 : Shape := ⟨3, ![512, 2, 128]⟩
abbrev S1536x2x128 : Shape := ⟨3, ![1536, 2, 128]⟩

abbrev nBuf : Space → Nat
  | .hbm => 14
  | .vmem => 16
  | .smem => 0
  | _ => 0

abbrev bufTy : (tb : Table) → Fin (tcTables nBuf tb) → BufTy
  | .hbm, ⟨0, _⟩ => ⟨S3x512x2048, .bf16⟩
  | .hbm, ⟨1, _⟩ => ⟨S2048, .f32⟩
  | .hbm, ⟨2, _⟩ => ⟨S1024x5120, .i8⟩
  | .hbm, ⟨3, _⟩ => ⟨S16x5120, .bf16⟩
  | .hbm, ⟨4, _⟩ => ⟨S16x5120, .i8⟩
  | .hbm, ⟨5, _⟩ => ⟨S128, .f32⟩
  | .hbm, ⟨6, _⟩ => ⟨S128, .f32⟩
  | .hbm, ⟨7, _⟩ => ⟨S1536x2048, .bf16⟩
  | .hbm, ⟨8, _⟩ => ⟨S1x2048, .f32⟩
  | .hbm, ⟨9, _⟩ => ⟨S1x128, .f32⟩
  | .hbm, ⟨10, _⟩ => ⟨S1x128, .f32⟩
  | .hbm, ⟨11, _⟩ => ⟨S1536x32x128, .bf16⟩
  | .hbm, ⟨12, _⟩ => ⟨S1536x4x128, .bf16⟩
  | .hbm, ⟨13, _⟩ => ⟨S1536x4x128, .bf16⟩
  | .local _ .vmem, ⟨0, _⟩ => ⟨S1536x2048, .bf16⟩
  | .local _ .vmem, ⟨1, _⟩ => ⟨S1x2048, .f32⟩
  | .local _ .vmem, ⟨2, _⟩ => ⟨S1024x1024, .i8⟩
  | .local _ .vmem, ⟨3, _⟩ => ⟨S1024x1024, .i8⟩
  | .local _ .vmem, ⟨4, _⟩ => ⟨S16x1024, .bf16⟩
  | .local _ .vmem, ⟨5, _⟩ => ⟨S16x1024, .bf16⟩
  | .local _ .vmem, ⟨6, _⟩ => ⟨S16x1024, .i8⟩
  | .local _ .vmem, ⟨7, _⟩ => ⟨S16x1024, .i8⟩
  | .local _ .vmem, ⟨8, _⟩ => ⟨S1x128, .f32⟩
  | .local _ .vmem, ⟨9, _⟩ => ⟨S1x128, .f32⟩
  | .local _ .vmem, ⟨10, _⟩ => ⟨S1536x8x128, .bf16⟩
  | .local _ .vmem, ⟨11, _⟩ => ⟨S1536x8x128, .bf16⟩
  | .local _ .vmem, ⟨12, _⟩ => ⟨S1536x4x128, .bf16⟩
  | .local _ .vmem, ⟨13, _⟩ => ⟨S1536x4x128, .bf16⟩
  | .local _ .vmem, ⟨14, _⟩ => ⟨S1536x2048, .bf16⟩
  | .local _ .vmem, ⟨15, _⟩ => ⟨S2048x1024, .bf16⟩
  | _, _ => ⟨S3x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [BitOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v483 : BitVec 1 := Scalar.cmpi .slt arg0 c4_i32
  let v484 : BitVec 32 := Scalar.extui v483
  let c0_i32_182 : BitVec 32 := 0#32
  let v485 : BitVec 1 := Scalar.cmpi .ne v484 c0_i32_182
  v485

@[reducible] def k0_t1_loop : Scf.Loop 32 :=
  let c0_i32_187 : BitVec 32 := 0#32
  let c3_i32 : BitVec 32 := 3#32
  let v491 : BitVec 32 := Scalar.addi c0_i32_187 c3_i32
  let c1_i32 : BitVec 32 := 1#32
  ⟨c0_i32_187, v491, c1_i32⟩
def k0_off1 (k0_t1 : Fin k0_t1_loop.trips) : Fin 2 → Nat :=
  let c0_i32_187 : BitVec 32 := 0#32
  let c1_i32 : BitVec 32 := 1#32
  let arg13 : BitVec 32 := Scf.iv c0_i32_187 c1_i32 k0_t1
  let c512_i32 : BitVec 32 := 512#32
  let v501 : BitVec 32 := Scalar.muli arg13 c512_i32
  let v502 : Index := Scalar.indexCast v501
  let c0_207 : Index := 0#32
  ![v502.toNat, 0]
def k0_off2 (k0_t1 : Fin k0_t1_loop.trips) : Fin 3 → Nat :=
  let c0_i32_187 : BitVec 32 := 0#32
  let c1_i32 : BitVec 32 := 1#32
  let arg13 : BitVec 32 := Scf.iv c0_i32_187 c1_i32 k0_t1
  let c512_i32_217 : BitVec 32 := 512#32
  let v533 : BitVec 32 := Scalar.muli arg13 c512_i32_217
  let v535 : Index := Scalar.indexCast v533
  let c0_219 : Index := 0#32
  ![v535.toNat, 0, 0]
@[reducible] def k0_t2_loop : Scf.Loop 32 :=
  let c0_i32_191 : BitVec 32 := 0#32
  let c3_i32_192 : BitVec 32 := 3#32
  let v494 : BitVec 32 := Scalar.addi c0_i32_191 c3_i32_192
  let c1_i32_193 : BitVec 32 := 1#32
  ⟨c0_i32_191, v494, c1_i32_193⟩
def k0_off3 (k0_t2 : Fin k0_t2_loop.trips) : Fin 2 → Nat :=
  let c0_i32_191 : BitVec 32 := 0#32
  let c1_i32_193 : BitVec 32 := 1#32
  let arg13 : BitVec 32 := Scf.iv c0_i32_191 c1_i32_193 k0_t2
  let c512_i32 : BitVec 32 := 512#32
  let v501 : BitVec 32 := Scalar.muli arg13 c512_i32
  let v502 : Index := Scalar.indexCast v501
  let c0_207 : Index := 0#32
  ![v502.toNat, 0]
def k0_off4 (k0_t2 : Fin k0_t2_loop.trips) : Fin 3 → Nat :=
  let c0_i32_191 : BitVec 32 := 0#32
  let c1_i32_193 : BitVec 32 := 1#32
  let arg13 : BitVec 32 := Scf.iv c0_i32_191 c1_i32_193 k0_t2
  let c512_i32_217 : BitVec 32 := 512#32
  let v533 : BitVec 32 := Scalar.muli arg13 c512_i32_217
  let v535 : Index := Scalar.indexCast v533
  let c0_219 : Index := 0#32
  ![v535.toNat, 2, 0]
@[reducible] def k0_t3_loop : Scf.Loop 32 :=
  let c0_i32_197 : BitVec 32 := 0#32
  let c3_i32_198 : BitVec 32 := 3#32
  let v497 : BitVec 32 := Scalar.addi c0_i32_197 c3_i32_198
  let c1_i32_199 : BitVec 32 := 1#32
  ⟨c0_i32_197, v497, c1_i32_199⟩
def k0_off5 (k0_t3 : Fin k0_t3_loop.trips) : Fin 2 → Nat :=
  let c0_i32_197 : BitVec 32 := 0#32
  let c1_i32_199 : BitVec 32 := 1#32
  let arg13 : BitVec 32 := Scf.iv c0_i32_197 c1_i32_199 k0_t3
  let c512_i32 : BitVec 32 := 512#32
  let v501 : BitVec 32 := Scalar.muli arg13 c512_i32
  let v502 : Index := Scalar.indexCast v501
  let c0_207 : Index := 0#32
  ![v502.toNat, 0]
def k0_off6 (k0_t3 : Fin k0_t3_loop.trips) : Fin 3 → Nat :=
  let c0_i32_197 : BitVec 32 := 0#32
  let c1_i32_199 : BitVec 32 := 1#32
  let arg13 : BitVec 32 := Scf.iv c0_i32_197 c1_i32_199 k0_t3
  let c512_i32_217 : BitVec 32 := 512#32
  let v533 : BitVec 32 := Scalar.muli arg13 c512_i32_217
  let v535 : Index := Scalar.indexCast v533
  let c0_219 : Index := 0#32
  ![v535.toNat, 4, 0]
@[reducible] def k0_t4_loop : Scf.Loop 32 :=
  let c0_i32_203 : BitVec 32 := 0#32
  let c3_i32_204 : BitVec 32 := 3#32
  let v500 : BitVec 32 := Scalar.addi c0_i32_203 c3_i32_204
  let c1_i32_205 : BitVec 32 := 1#32
  ⟨c0_i32_203, v500, c1_i32_205⟩
def k0_off7 (k0_t4 : Fin k0_t4_loop.trips) : Fin 2 → Nat :=
  let c0_i32_203 : BitVec 32 := 0#32
  let c1_i32_205 : BitVec 32 := 1#32
  let arg13 : BitVec 32 := Scf.iv c0_i32_203 c1_i32_205 k0_t4
  let c512_i32 : BitVec 32 := 512#32
  let v501 : BitVec 32 := Scalar.muli arg13 c512_i32
  let v502 : Index := Scalar.indexCast v501
  let c0_207 : Index := 0#32
  ![v502.toNat, 0]
def k0_off8 (k0_t4 : Fin k0_t4_loop.trips) : Fin 3 → Nat :=
  let c0_i32_203 : BitVec 32 := 0#32
  let c1_i32_205 : BitVec 32 := 1#32
  let arg13 : BitVec 32 := Scf.iv c0_i32_203 c1_i32_205 k0_t4
  let c512_i32_217 : BitVec 32 := 512#32
  let v533 : BitVec 32 := Scalar.muli arg13 c512_i32_217
  let v535 : Index := Scalar.indexCast v533
  let c0_219 : Index := 0#32
  ![v535.toNat, 6, 0]
def k0_cond3 (i : grid0.Coords) : BitVec 1 :=
  let arg0 : BitVec 32 := BitVec.ofNat 32 (i 0).val
  let c4_i32_183 : BitVec 32 := 4#32
  let v486 : BitVec 1 := Scalar.cmpi .eq arg0 c4_i32_183
  let v487 : BitVec 32 := Scalar.extui v486
  let c0_i32_184 : BitVec 32 := 0#32
  let v488 : BitVec 1 := Scalar.cmpi .ne v487 c0_i32_184
  v488

@[reducible] def k0_t5_loop : Scf.Loop 32 :=
  let c0_i32_187 : BitVec 32 := 0#32
  let c3_i32 : BitVec 32 := 3#32
  let v491 : BitVec 32 := Scalar.addi c0_i32_187 c3_i32
  let c1_i32 : BitVec 32 := 1#32
  ⟨c0_i32_187, v491, c1_i32⟩
def k0_off9 (k0_t5 : Fin k0_t5_loop.trips) : Fin 2 → Nat :=
  let c0_i32_187 : BitVec 32 := 0#32
  let c1_i32 : BitVec 32 := 1#32
  let arg13 : BitVec 32 := Scf.iv c0_i32_187 c1_i32 k0_t5
  let c512_i32 : BitVec 32 := 512#32
  let v497 : BitVec 32 := Scalar.muli arg13 c512_i32
  let v498 : Index := Scalar.indexCast v497
  let c0_203 : Index := 0#32
  ![v498.toNat, 0]
def k0_off10 (k0_t5 : Fin k0_t5_loop.trips) : Fin 3 → Nat :=
  let c0_i32_187 : BitVec 32 := 0#32
  let c1_i32 : BitVec 32 := 1#32
  let arg13 : BitVec 32 := Scf.iv c0_i32_187 c1_i32 k0_t5
  let c512_i32_213 : BitVec 32 := 512#32
  let v529 : BitVec 32 := Scalar.muli arg13 c512_i32_213
  let v531 : Index := Scalar.indexCast v529
  let c0_215 : Index := 0#32
  ![v531.toNat, 0, 0]
@[reducible] def k0_t6_loop : Scf.Loop 32 :=
  let c0_i32_191 : BitVec 32 := 0#32
  let c3_i32_192 : BitVec 32 := 3#32
  let v494 : BitVec 32 := Scalar.addi c0_i32_191 c3_i32_192
  let c1_i32_193 : BitVec 32 := 1#32
  ⟨c0_i32_191, v494, c1_i32_193⟩
def k0_off11 (k0_t6 : Fin k0_t6_loop.trips) : Fin 2 → Nat :=
  let c0_i32_191 : BitVec 32 := 0#32
  let c1_i32_193 : BitVec 32 := 1#32
  let arg13 : BitVec 32 := Scf.iv c0_i32_191 c1_i32_193 k0_t6
  let c512_i32 : BitVec 32 := 512#32
  let v497 : BitVec 32 := Scalar.muli arg13 c512_i32
  let v498 : Index := Scalar.indexCast v497
  let c0_203 : Index := 0#32
  ![v498.toNat, 0]
def k0_off12 (k0_t6 : Fin k0_t6_loop.trips) : Fin 3 → Nat :=
  let c0_i32_191 : BitVec 32 := 0#32
  let c1_i32_193 : BitVec 32 := 1#32
  let arg13 : BitVec 32 := Scf.iv c0_i32_191 c1_i32_193 k0_t6
  let c512_i32_213 : BitVec 32 := 512#32
  let v529 : BitVec 32 := Scalar.muli arg13 c512_i32_213
  let v531 : Index := Scalar.indexCast v529
  let c0_215 : Index := 0#32
  ![v531.toNat, 2, 0]
@[reducible] def k0_t7_loop : Scf.Loop 32 :=
  let c0_i32_195 : BitVec 32 := 0#32
  let c3_i32_196 : BitVec 32 := 3#32
  let v495 : BitVec 32 := Scalar.addi c0_i32_195 c3_i32_196
  let c1_i32_197 : BitVec 32 := 1#32
  ⟨c0_i32_195, v495, c1_i32_197⟩
def k0_off13 (k0_t7 : Fin k0_t7_loop.trips) : Fin 2 → Nat :=
  let c0_i32_195 : BitVec 32 := 0#32
  let c1_i32_197 : BitVec 32 := 1#32
  let arg13 : BitVec 32 := Scf.iv c0_i32_195 c1_i32_197 k0_t7
  let c512_i32 : BitVec 32 := 512#32
  let v497 : BitVec 32 := Scalar.muli arg13 c512_i32
  let v498 : Index := Scalar.indexCast v497
  let c0_203 : Index := 0#32
  ![v498.toNat, 0]
def k0_off14 (k0_t7 : Fin k0_t7_loop.trips) : Fin 3 → Nat :=
  let c0_i32_195 : BitVec 32 := 0#32
  let c1_i32_197 : BitVec 32 := 1#32
  let arg13 : BitVec 32 := Scf.iv c0_i32_195 c1_i32_197 k0_t7
  let c512_i32_207 : BitVec 32 := 512#32
  let v505 : BitVec 32 := Scalar.muli arg13 c512_i32_207
  let v507 : Index := Scalar.indexCast v505
  let c0_209 : Index := 0#32
  ![v507.toNat, 0, 0]
@[reducible] def k0_t8_loop : Scf.Loop 32 :=
  let c0_i32_199 : BitVec 32 := 0#32
  let c3_i32_200 : BitVec 32 := 3#32
  let v496 : BitVec 32 := Scalar.addi c0_i32_199 c3_i32_200
  let c1_i32_201 : BitVec 32 := 1#32
  ⟨c0_i32_199, v496, c1_i32_201⟩
def k0_off15 (k0_t8 : Fin k0_t8_loop.trips) : Fin 2 → Nat :=
  let c0_i32_199 : BitVec 32 := 0#32
  let c1_i32_201 : BitVec 32 := 1#32
  let arg13 : BitVec 32 := Scf.iv c0_i32_199 c1_i32_201 k0_t8
  let c512_i32 : BitVec 32 := 512#32
  let v497 : BitVec 32 := Scalar.muli arg13 c512_i32
  let v498 : Index := Scalar.indexCast v497
  let c0_203 : Index := 0#32
  ![v498.toNat, 0]
def k0_off16 (k0_t8 : Fin k0_t8_loop.trips) : Fin 3 → Nat :=
  let c0_i32_199 : BitVec 32 := 0#32
  let c1_i32_201 : BitVec 32 := 1#32
  let arg13 : BitVec 32 := Scf.iv c0_i32_199 c1_i32_201 k0_t8
  let c512_i32_207 : BitVec 32 := 512#32
  let v505 : BitVec 32 := Scalar.muli arg13 c512_i32_207
  let v507 : Index := Scalar.indexCast v505
  let c0_209 : Index := 0#32
  ![v507.toNat, 2, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1536x8x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x4x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x4x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F]
-- ==== ReferenceIdeal.lean ====
abbrev S3x512x2048 : Shape := ⟨3, ![3, 512, 2048]⟩
abbrev S2048 : Shape := ⟨1, ![2048]⟩
abbrev S1024x5120 : Shape := ⟨2, ![1024, 5120]⟩
abbrev S16x5120 : Shape := ⟨2, ![16, 5120]⟩
abbrev S128 : Shape := ⟨1, ![128]⟩
abbrev S_ : Shape := ⟨0, ![]⟩
abbrev S3x512 : Shape := ⟨2, ![3, 512]⟩
abbrev S3x512x1 : Shape := ⟨3, ![3, 512, 1]⟩
abbrev S1x1x2048 : Shape := ⟨3, ![1, 1, 2048]⟩
abbrev S1024x1x5120 : Shape := ⟨3, ![1024, 1, 5120]⟩
abbrev S1024x2x5120 : Shape := ⟨3, ![1024, 2, 5120]⟩
abbrev S16x128x5120 : Shape := ⟨3, ![16, 128, 5120]⟩
abbrev S16x1x5120 : Shape := ⟨3, ![16, 1, 5120]⟩
abbrev S2048x5120 : Shape := ⟨2, ![2048, 5120]⟩
abbrev S3x512x5120 : Shape := ⟨3, ![3, 512, 5120]⟩
abbrev S3x512x4096 : Shape := ⟨3, ![3, 512, 4096]⟩
abbrev S3x512x32x128 : Shape := ⟨4, ![3, 512, 32, 128]⟩
abbrev S3x512x512 : Shape := ⟨3, ![3, 512, 512]⟩
abbrev S3x512x4x128 : Shape := ⟨4, ![3, 512, 4, 128]⟩
abbrev S3x512x32 : Shape := ⟨3, ![3, 512, 32]⟩
abbrev S3x512x32x1 : Shape := ⟨4, ![3, 512, 32, 1]⟩
abbrev S1x1x1x128 : Shape := ⟨4, ![1, 1, 1, 128]⟩
abbrev S3x512x4 : Shape := ⟨3, ![3, 512, 4]⟩
abbrev S3x512x4x1 : Shape := ⟨4, ![3, 512, 4, 1]⟩
abbrev S1536x32x128 : Shape := ⟨3, ![1536, 32, 128]⟩
abbrev S1536x4x128 : Shape := ⟨3, ![1536, 4, 128]⟩

abbrev nBuf : Space → Nat
  | .hbm => 91
  | .vmem => 0
  | .smem => 0
  | _ => 0

abbrev bufTy : (tb : Table) → Fin (tcTables nBuf tb) → BufTy
  | .hbm, ⟨0, _⟩ => ⟨S3x512x2048, .bf16⟩
  | .hbm, ⟨1, _⟩ => ⟨S2048, .f32⟩
  | .hbm, ⟨2, _⟩ => ⟨S1024x5120, .i8⟩
  | .hbm, ⟨3, _⟩ => ⟨S16x5120, .bf16⟩
  | .hbm, ⟨4, _⟩ => ⟨S16x5120, .i8⟩
  | .hbm, ⟨5, _⟩ => ⟨S128, .f32⟩
  | .hbm, ⟨6, _⟩ => ⟨S128, .f32⟩
  | .hbm, ⟨7, _⟩ => ⟨S3x512x2048, .f32⟩
  | .hbm, ⟨8, _⟩ => ⟨S3x512x2048, .f32⟩
  | .hbm, ⟨9, _⟩ => ⟨S_, .f32⟩
  | .hbm, ⟨10, _⟩ => ⟨S3x512, .f32⟩
  | .hbm, ⟨11, _⟩ => ⟨S3x512x1, .f32⟩
  | .hbm, ⟨12, _⟩ => ⟨S_, .f32⟩
  | .hbm, ⟨13, _⟩ => ⟨S3x512x1, .f32⟩
  | .hbm, ⟨14, _⟩ => ⟨S3x512x1, .f32⟩
  | .hbm, ⟨15, _⟩ => ⟨S_, .f32⟩
  | .hbm, ⟨16, _⟩ => ⟨S3x512x1, .f32⟩
  | .hbm, ⟨17, _⟩ => ⟨S3x512x1, .f32⟩
  | .hbm, ⟨18, _⟩ => ⟨S3x512x1, .f32⟩
  | .hbm, ⟨19, _⟩ => ⟨S3x512x2048, .f32⟩
  | .hbm, ⟨20, _⟩ => ⟨S3x512x2048, .f32⟩
  | .hbm, ⟨21, _⟩ => ⟨S1x1x2048, .f32⟩
  | .hbm, ⟨22, _⟩ => ⟨S3x512x2048, .f32⟩
  | .hbm, ⟨23, _⟩ => ⟨S3x512x2048, .f32⟩
  | .hbm, ⟨24, _⟩ => ⟨S3x512x2048, .bf16⟩
  | .hbm, ⟨25, _⟩ => ⟨S1024x5120, .i32⟩
  | .hbm, ⟨26, _⟩ => ⟨S_, .i32⟩
  | .hbm, ⟨27, _⟩ => ⟨S1024x5120, .i32⟩
  | .hbm, ⟨28, _⟩ => ⟨S1024x5120, .i32⟩
  | .hbm, ⟨29, _⟩ => ⟨S_, .i32⟩
  | .hbm, ⟨30, _⟩ => ⟨S1024x5120, .i32⟩
  | .hbm, ⟨31, _⟩ => ⟨S1024x5120, .i32⟩
  | .hbm, ⟨32, _⟩ => ⟨S1024x1x5120, .i32⟩
  | .hbm, ⟨33, _⟩ => ⟨S1024x1x5120, .i32⟩
  | .hbm, ⟨34, _⟩ => ⟨S1024x2x5120, .i32⟩
  | .hbm, ⟨35, _⟩ => ⟨S16x128x5120, .i32⟩
  | .hbm, ⟨36, _⟩ => ⟨S16x128x5120, .bf16⟩
  | .hbm, ⟨37, _⟩ => ⟨S16x5120, .i32⟩
  | .hbm, ⟨38, _⟩ => ⟨S16x5120, .bf16⟩
  | .hbm, ⟨39, _⟩ => ⟨S16x1x5120, .bf16⟩
  | .hbm, ⟨40, _⟩ => ⟨S16x1x5120, .bf16⟩
  | .hbm, ⟨41, _⟩ => ⟨S16x128x5120, .bf16⟩
  | .hbm, ⟨42, _⟩ => ⟨S16x128x5120, .bf16⟩
  | .hbm, ⟨43, _⟩ => ⟨S16x128x5120, .bf16⟩
  | .hbm, ⟨44, _⟩ => ⟨S16x128x5120, .bf16⟩
  | .hbm, ⟨45, _⟩ => ⟨S2048x5120, .bf16⟩
  | .hbm, ⟨46, _⟩ => ⟨S3x512x5120, .f32⟩
  | .hbm, ⟨47, _⟩ => ⟨S3x512x4096, .f32⟩
  | .hbm, ⟨48, _⟩ => ⟨S3x512x32x128, .f32⟩
  | .hbm, ⟨49, _⟩ => ⟨S3x512x512, .f32⟩
  | .hbm, ⟨50, _⟩ => ⟨S3x512x4x128, .f32⟩
  | .hbm, ⟨51, _⟩ => ⟨S3x512x512, .f32⟩
  | .hbm, ⟨52, _⟩ => ⟨S3x512x4x128, .f32⟩
  | .hbm, ⟨53, _⟩ => ⟨S3x512x32x128, .f32⟩
  | .hbm, ⟨54, _⟩ => ⟨S_, .f32⟩
  | .hbm, ⟨55, _⟩ => ⟨S3x512x32, .f32⟩
  | .hbm, ⟨56, _⟩ => ⟨S3x512x32x1, .f32⟩
  | .hbm, ⟨57, _⟩ => ⟨S_, .f32⟩
  | .hbm, ⟨58, _⟩ => ⟨S3x512x32x1, .f32⟩
  | .hbm, ⟨59, _⟩ => ⟨S3x512x32x1, .f32⟩
  | .hbm, ⟨60, _⟩ => ⟨S_, .f32⟩
  | .hbm, ⟨61, _⟩ => ⟨S3x512x32x1, .f32⟩
  | .hbm, ⟨62, _⟩ => ⟨S3x512x32x1, .f32⟩
  | .hbm, ⟨63, _⟩ => ⟨S3x512x32x1, .f32⟩
  | .hbm, ⟨64, _⟩ => ⟨S3x512x32x128, .f32⟩
  | .hbm, ⟨65, _⟩ => ⟨S3x512x32x128, .f32⟩
  | .hbm, ⟨66, _⟩ => ⟨S1x1x1x128, .f32⟩
  | .hbm, ⟨67, _⟩ => ⟨S3x512x32x128, .f32⟩
  | .hbm, ⟨68, _⟩ => ⟨S3x512x32x128, .f32⟩
  | .hbm, ⟨69, _⟩ => ⟨S3x512x4x128, .f32⟩
  | .hbm, ⟨70, _⟩ => ⟨S_, .f32⟩
  | .hbm, ⟨71, _⟩ => ⟨S3x512x4, .f32⟩
  | .hbm, ⟨72, _⟩ => ⟨S3x512x4x1, .f32⟩
  | .hbm, ⟨73, _⟩ => ⟨S_, .f32⟩
  | .hbm, ⟨74, _⟩ => ⟨S3x512x4x1, .f32⟩
  | .hbm, ⟨75, _⟩ => ⟨S3x512x4x1, .f32⟩
  | .hbm, ⟨76, _⟩ => ⟨S_, .f32⟩
  | .hbm, ⟨77, _⟩ => ⟨S3x512x4x1, .f32⟩
  | .hbm, ⟨78, _⟩ => ⟨S3x512x4x1, .f32⟩
  | .hbm, ⟨79, _⟩ => ⟨S3x512x4x1, .f32⟩
  | .hbm, ⟨80, _⟩ => ⟨S3x512x4x128, .f32⟩
  | .hbm, ⟨81, _⟩ => ⟨S3x512x4x128, .f32⟩
  | .hbm, ⟨82, _⟩ => ⟨S1x1x1x128, .f32⟩
  | .hbm, ⟨83, _⟩ => ⟨S3x512x4x128, .f32⟩
  | .hbm, ⟨84, _⟩ => ⟨S3x512x4x128, .f32⟩
  | .hbm, ⟨85, _⟩ => ⟨S3x512x32x128, .bf16⟩
  | .hbm, ⟨86, _⟩ => ⟨S3x512x4x128, .bf16⟩
  | .hbm, ⟨87, _⟩ => ⟨S3x512x4x128, .bf16⟩
  | .hbm, ⟨88, _⟩ => ⟨S1536x32x128, .bf16⟩
  | .hbm, ⟨89, _⟩ => ⟨S1536x4x128, .bf16⟩
  | .hbm, ⟨90, _⟩ => ⟨S1536x4x128, .bf16⟩
  | _, _ => ⟨S3x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Proof.KernelSetup.lean ====
/- What the runs of the kernel's body share: its branch conditions in closed form over the grid's points, the windows it
   stores into at every point, its staging and scratch buffers; and the frame from a run that forgets the outputs. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, e0]
    word_cmp
   : ∀ t : Fin grid0.N, cond0_0 (grid0.coords t) ↔ t.val % 5 = 0)

/-- The condition of the body's `scf.if` 1 (`k0_h2`), from the grid coordinates (the skeleton's scalar
    chain substituted). -/
abbrev cond0_1 (i : grid0.Coords) : Prop := k0_cond2 i = 1#1
/-- It holds at the points before point 4 — decided over the grid. -/
theorem hcond0_1 : ∀ t : Fin cfg0.N, cond0_1 (grid0.coords t) ↔ t.val < 4 :=
  (by decide +kernel : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 5 = 4 :=
  (fun t => by
    have ht : t.val < 5 := Nat.lt_of_lt_of_eq t.isLt N_0
    have e0 : (grid0.coords t 0).val = t.val / 1 % 5 := Pipeline.Grid.coords_val t 0 (by decide) rfl
    simp only [cond0_2, k0_cond3, e0]
    word_cmp
   : ∀ t : Fin grid0.N, cond0_2 (grid0.coords t) ↔ t.val % 5 = 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x8x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x4x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1536x4x128 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1536x2048 .bf16 := Memref.whole cc0_scratch0
abbrev scM0_1 : Memref sig .tc .vmem S2048x1024 .bf16 := Memref.whole cc0_scratch1
/-- The scratch `arg11` the kernel carries between points, as a view: what it holds is stated through it. -/
abbrev VS0_0 : View sig .tc .vmem S1536x2048 .bf16 := scM0_0.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KernelRunA.lean ====
/- The kernel's whole body at the first point, each output handed back at some contents. -/
module

public import proofs.«01_k».proof.Proof.KernelSetup

@[expose] public section

-- membership in a rectangle of production extents (`View.cover_of_tiled`): the elaborator's structural look
-- recurses once per coordinate of the long axes
set_option maxRecDepth 16384

noncomputable section

namespace Cert.Kernel.Hand
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1184000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_A (c : Dev nD) (i : grid0.Coords) (arg1 : Memref sig .tc .vmem S1536x2048 .bf16) (harg1 : arg1.IsWhole) (arg2 : Memref sig .tc .vmem S1x2048 .f32) (harg2 : arg2.IsWhole) (arg3 : Memref sig .tc .vmem S1024x1024 .i8) (harg3 : arg3.IsWhole) (arg4 : Memref sig .tc .vmem S16x1024 .bf16) (harg4 : arg4.IsWhole) (arg5 : Memref sig .tc .vmem S16x1024 .i8) (harg5 : arg5.IsWhole) (arg6 : Memref sig .tc .vmem S1x128 .f32) (harg6 : arg6.IsWhole) (arg7 : Memref sig .tc .vmem S1x128 .f32) (harg7 : arg7.IsWhole) (arg8 : Memref sig .tc .vmem S1536x8x128 .bf16) (harg8 : arg8.IsWhole) (arg9 : Memref sig .tc .vmem S1536x4x128 .bf16) (harg9 : arg9.IsWhole) (arg10 : Memref sig .tc .vmem S1536x4x128 .bf16) (harg10 : arg10.IsWhole) (arg11 : Memref sig .tc .vmem S1536x2048 .bf16) (harg11 : arg11.IsWhole) (arg12 : Memref sig .tc .vmem S2048x1024 .bf16) (harg12 : arg12.IsWhole) (hc0 : cond0_0 i) (hc1 : cond0_1 i) (hc2 : ¬cond0_2 i)
    (x0 : Vec F S1536x2048 .bf16) (x1 : Vec F S1x2048 .f32) (x2 : Vec F S1024x1024 .i8) (x3 : Vec F S16x1024 .bf16) (x4 : Vec F S16x1024 .i8) (x5 : Vec F S1x128 .f32) (x6 : Vec F S1x128 .f32) :
    { LS0 : List (View.Piece (Elt F) S1536x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0) ∗ (∃ d, owns (c : Thread nD τ) arg12 fullShare d)) -∗ K ⟨⟩))
          ⊢ wp frame (wpE (defs₀ (F := F)) Variants.none c none) E (cc0_w4_qkv i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_w4_qkv_eq_skeleton]; unfold cc0_w4_qkv_skel
    simp only [k0_part6_eq_skeleton, k0_part1_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]; · iexists _; iexact HS0
    iexists _, _; isplitr; swap; · iexact HS1
    ipureintro; rfl

end Cert.Kernel.Hand

end
-- ==== Proof.KernelRunB.lean ====
/- The kernel's whole body at a point after the first that stores query heads, each output handed back at some contents. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Hand
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, 3), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_B (c : Dev nD) (i : grid0.Coords) (arg1 : Memref sig .tc .vmem S1536x2048 .bf16) (harg1 : arg1.IsWhole) (arg2 : Memref sig .tc .vmem S1x2048 .f32) (harg2 : arg2.IsWhole) (arg3 : Memref sig .tc .vmem S1024x1024 .i8) (harg3 : arg3.IsWhole) (arg4 : Memref sig .tc .vmem S16x1024 .bf16) (harg4 : arg4.IsWhole) (arg5 : Memref sig .tc .vmem S16x1024 .i8) (harg5 : arg5.IsWhole) (arg6 : Memref sig .tc .vmem S1x128 .f32) (harg6 : arg6.IsWhole) (arg7 : Memref sig .tc .vmem S1x128 .f32) (harg7 : arg7.IsWhole) (arg8 : Memref sig .tc .vmem S1536x8x128 .bf16) (harg8 : arg8.IsWhole) (arg9 : Memref sig .tc .vmem S1536x4x128 .bf16) (harg9 : arg9.IsWhole) (arg10 : Memref sig .tc .vmem S1536x4x128 .bf16) (harg10 : arg10.IsWhole) (arg11 : Memref sig .tc .vmem S1536x2048 .bf16) (harg11 : arg11.IsWhole) (arg12 : Memref sig .tc .vmem S2048x1024 .bf16) (harg12 : arg12.IsWhole) (hc0 : ¬cond0_0 i) (hc1 : cond0_1 i) (hc2 : ¬cond0_2 i)
    (x0 : Vec F S1536x2048 .bf16) (x1 : Vec F S1x2048 .f32) (x2 : Vec F S1024x1024 .i8) (x3 : Vec F S16x1024 .bf16) (x4 : Vec F S16x1024 .i8) (x5 : Vec F S1x128 .f32) (x6 : Vec F S1x128 .f32) (xs0 : Vec F S1536x2048 .bf16) :
    { LS0 : List (View.Piece (Elt F) S1536x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)) -∗ K ⟨⟩))
          ⊢ wp frame (wpE (defs₀ (F := F)) Variants.none c none) E (cc0_w4_qkv i arg1 harg1 arg2 harg2 arg3 harg3 arg4 harg4 arg5 harg5 arg6 harg6 arg7 harg7 arg8 harg8 arg9 harg9 arg10 harg10 arg11 harg11 arg12 harg12) K } := by
  refine ⟨[], fun E K => ?run⟩
  case run =>
    simp only [cc0_w4_qkv_eq_skeleton]; unfold cc0_w4_qkv_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg11.read_unread _
      iexact HS0
    iexists _, _; isplitr; swap; · iexact HS1
    ipureintro; rfl

end Cert.Kernel.Hand

end
-- ==== Proof.KernelRunC.lean ====
/- The kernel's whole body at the last point, each output handed back at some contents. -/
module

public import proofs.«01_k».proof.Proof.KernelRunB

@[expose] public section

-- membership in a rectangle of production extents (`View.cover_of_tiled`): the elaborator's structural look
-- recurses once per coordinate of the long axes
set_option maxRecDepth 16384

noncomputable section

namespace Cert.Kernel.Hand
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken, `scf.if` 2 taken: points 4), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_C (c : Dev nD) (i : grid0.Coords) (arg1 : Memref sig .tc .vmem S1536x2048 .bf16) (harg1 : arg1.IsWhole) (arg2 : Memref sig .tc .vmem S1x2048 .f32) (harg2 : arg2.IsWhole) (arg3 : Memref sig .tc .vmem S1024x1024 .i8) (harg3 : arg3.IsWhole) (arg4 : Memref sig .tc .vmem S16x1024 .bf16) (harg4 : arg4.IsWhole) (arg5 : Memref sig .tc .vmem S16x1024 .i8) (harg5 : arg5.IsWhole) (arg6 : Memref sig .tc .vmem S1x128 .f32) (harg6 : arg6.IsWhole) (arg7 : Memref sig .tc .vmem S1x128 .f32) (harg7 : arg7.IsWhole) (arg8 : Memref sig .tc .vmem S1536x8x128 .bf16) (harg8 : arg8.IsWhole) (arg9 : Memref sig .tc .vmem S1536x4x128 .bf16) (harg9 : arg9.IsWhole) (arg10 : Memref sig .tc .vmem S1536x4x128 .bf16) (harg10 : arg10.IsWhole) (arg11 : Memref sig .tc .vmem S1536x2048 .bf16) (harg11 : arg11.IsWhole) (arg12 : Memref sig .tc .vmem S2048x1024 .bf16) (harg12 : arg12.IsWhole) (hc0 : ¬cond0_0 i) (hc1 : ¬cond0_1 i) (hc2 : cond0_2 i)
    (x0 : Vec F S1536x2048 .bf16) (x1 : Vec F S1x2048 .f32) (x2 : Vec F S1024x1024 .i8) (x3 : Vec F S16x1024 .bf16) (x4 : Vec F S16x1024 .i8) (x5 : Vec F S1x128 .f32) (x6 : Vec F S1x128 .f32) (xs0 : Vec F S1536x2048 .bf16) :
    { LS0 : List (View.Piece (Elt F) S1536x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)) -∗ K ⟨⟩))
          ⊢ wp frame (wpE (defs₀ (F := F)) Variants.none c none) E (cc0_w4_qkv i arg1 harg1 arg2 harg2 arg3 harg3 arg4 harg4 arg5 harg5 arg6 harg6 arg7 harg7 arg8 harg8 arg9 harg9 arg10 harg10 arg11 harg11 arg12 harg12) K } := by
  refine ⟨[], fun E K => ?run⟩
  case run =>
    simp only [cc0_w4_qkv_eq_skeleton]; unfold cc0_w4_qkv_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg11.read_unread _
      iexact HS0
    iexists _, _; isplitr; swap; · iexact HS1
    ipureintro; rfl

end Cert.Kernel.Hand

end
-- ==== Proof.KernelFrame.lean ====
/- The kernel's frame: it terminates, the arguments end as they were, every semaphore counter ends at zero. Of the outputs
   nothing is named here. -/
module

public import proofs.«01_k».proof.Proof.KernelRunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for scratch `arg11`, which the kernel carries between points, cover it: 12 pieces of `S128x2048` tiling it (Lib/Ring.lean `Piece.tiledL`). -/
theorem scover0_A_0 (c : Dev nD) (i : grid0.Coords) (arg1 : Memref sig .tc .vmem S1536x2048 .bf16) (harg1 : arg1.IsWhole) (arg2 : Memref sig .tc .vmem S1x2048 .f32) (harg2 : arg2.IsWhole) (arg3 : Memref sig .tc .vmem S1024x1024 .i8) (harg3 : arg3.IsWhole) (arg4 : Memref sig .tc .vmem S16x1024 .bf16) (harg4 : arg4.IsWhole) (arg5 : Memref sig .tc .vmem S16x1024 .i8) (harg5 : arg5.IsWhole) (arg6 : Memref sig .tc .vmem S1x128 .f32) (harg6 : arg6.IsWhole) (arg7 : Memref sig .tc .vmem S1x128 .f32) (harg7 : arg7.IsWhole) (arg8 : Memref sig .tc .vmem S1536x8x128 .bf16) (harg8 : arg8.IsWhole) (arg9 : Memref sig .tc .vmem S1536x4x128 .bf16) (harg9 : arg9.IsWhole) (arg10 : Memref sig .tc .vmem S1536x4x128 .bf16) (harg10 : arg10.IsWhole) (arg11 : Memref sig .tc .vmem S1536x2048 .bf16) (harg11 : arg11.IsWhole) (arg12 : Memref sig .tc .vmem S2048x1024 .bf16) (harg12 : arg12.IsWhole) (hc0 : cond0_0 i) (hc1 : cond0_1 i) (hc2 : ¬cond0_2 i)
    (x0 : Vec F S1536x2048 .bf16) (x1 : Vec F S1x2048 .f32) (x2 : Vec F S1024x1024 .i8) (x3 : Vec F S16x1024 .bf16) (x4 : Vec F S16x1024 .i8) (x5 : Vec F S1x128 .f32) (x6 : Vec F S1x128 .f32) (y : S1536x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6).1 S128x2048.size (by sl_kernel_rfl) y

/-- What case A leaves in scratch `arg11`: its pieces read back over junk. -/
def sout0_A_0 (c : Dev nD) (i : grid0.Coords) (arg1 : Memref sig .tc .vmem S1536x2048 .bf16) (harg1 : arg1.IsWhole) (arg2 : Memref sig .tc .vmem S1x2048 .f32) (harg2 : arg2.IsWhole) (arg3 : Memref sig .tc .vmem S1024x1024 .i8) (harg3 : arg3.IsWhole) (arg4 : Memref sig .tc .vmem S16x1024 .bf16) (harg4 : arg4.IsWhole) (arg5 : Memref sig .tc .vmem S16x1024 .i8) (harg5 : arg5.IsWhole) (arg6 : Memref sig .tc .vmem S1x128 .f32) (harg6 : arg6.IsWhole) (arg7 : Memref sig .tc .vmem S1x128 .f32) (harg7 : arg7.IsWhole) (arg8 : Memref sig .tc .vmem S1536x8x128 .bf16) (harg8 : arg8.IsWhole) (arg9 : Memref sig .tc .vmem S1536x4x128 .bf16) (harg9 : arg9.IsWhole) (arg10 : Memref sig .tc .vmem S1536x4x128 .bf16) (harg10 : arg10.IsWhole) (arg11 : Memref sig .tc .vmem S1536x2048 .bf16) (harg11 : arg11.IsWhole) (arg12 : Memref sig .tc .vmem S2048x1024 .bf16) (harg12 : arg12.IsWhole) (hc0 : cond0_0 i) (hc1 : cond0_1 i) (hc2 : ¬cond0_2 i)
    (x0 : Vec F S1536x2048 .bf16) (x1 : Vec F S1x2048 .f32) (x2 : Vec F S1024x1024 .i8) (x3 : Vec F S16x1024 .bf16) (x4 : Vec F S16x1024 .i8) (x5 : Vec F S1x128 .f32) (x6 : Vec F S1x128 .f32) : Vec F S1536x2048 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 hc1 hc2 x0 x1 x2 x3 x4 x5 x6).1)

/-- Case B stores nothing into scratch `arg11`: it holds what the point before left. -/
def sout0_B_0 (c : Dev nD) (i : grid0.Coords) (arg1 : Memref sig .tc .vmem S1536x2048 .bf16) (harg1 : arg1.IsWhole) (arg2 : Memref sig .tc .vmem S1x2048 .f32) (harg2 : arg2.IsWhole) (arg3 : Memref sig .tc .vmem S1024x1024 .i8) (harg3 : arg3.IsWhole) (arg4 : Memref sig .tc .vmem S16x1024 .bf16) (harg4 : arg4.IsWhole) (arg5 : Memref sig .tc .vmem S16x1024 .i8) (harg5 : arg5.IsWhole) (arg6 : Memref sig .tc .vmem S1x128 .f32) (harg6 : arg6.IsWhole) (arg7 : Memref sig .tc .vmem S1x128 .f32) (harg7 : arg7.IsWhole) (arg8 : Memref sig .tc .vmem S1536x8x128 .bf16) (harg8 : arg8.IsWhole) (arg9 : Memref sig .tc .vmem S1536x4x128 .bf16) (harg9 : arg9.IsWhole) (arg10 : Memref sig .tc .vmem S1536x4x128 .bf16) (harg10 : arg10.IsWhole) (arg11 : Memref sig .tc .vmem S1536x2048 .bf16) (harg11 : arg11.IsWhole) (arg12 : Memref sig .tc .vmem S2048x1024 .bf16) (harg12 : arg12.IsWhole) (hc0 : ¬cond0_0 i) (hc1 : cond0_1 i) (hc2 : ¬cond0_2 i)
    (x0 : Vec F S1536x2048 .bf16) (x1 : Vec F S1x2048 .f32) (x2 : Vec F S1024x1024 .i8) (x3 : Vec F S16x1024 .bf16) (x4 : Vec F S16x1024 .i8) (x5 : Vec F S1x128 .f32) (x6 : Vec F S1x128 .f32) (xs0 : Vec F S1536x2048 .bf16) : Vec F S1536x2048 .bf16 := xs0

/-- Case C stores nothing into scratch `arg11`: it holds what the point before left. -/
def sout0_C_0 (c : Dev nD) (i : grid0.Coords) (arg1 : Memref sig .tc .vmem S1536x2048 .bf16) (harg1 : arg1.IsWhole) (arg2 : Memref sig .tc .vmem S1x2048 .f32) (harg2 : arg2.IsWhole) (arg3 : Memref sig .tc .vmem S1024x1024 .i8) (harg3 : arg3.IsWhole) (arg4 : Memref sig .tc .vmem S16x1024 .bf16) (harg4 : arg4.IsWhole) (arg5 : Memref sig .tc .vmem S16x1024 .i8) (harg5 : arg5.IsWhole) (arg6 : Memref sig .tc .vmem S1x128 .f32) (harg6 : arg6.IsWhole) (arg7 : Memref sig .tc .vmem S1x128 .f32) (harg7 : arg7.IsWhole) (arg8 : Memref sig .tc .vmem S1536x8x128 .bf16) (harg8 : arg8.IsWhole) (arg9 : Memref sig .tc .vmem S1536x4x128 .bf16) (harg9 : arg9.IsWhole) (arg10 : Memref sig .tc .vmem S1536x4x128 .bf16) (harg10 : arg10.IsWhole) (arg11 : Memref sig .tc .vmem S1536x2048 .bf16) (harg11 : arg11.IsWhole) (arg12 : Memref sig .tc .vmem S2048x1024 .bf16) (harg12 : arg12.IsWhole) (hc0 : ¬cond0_0 i) (hc1 : ¬cond0_1 i) (hc2 : cond0_2 i)
    (x0 : Vec F S1536x2048 .bf16) (x1 : Vec F S1x2048 .f32) (x2 : Vec F S1024x1024 .i8) (x3 : Vec F S16x1024 .bf16) (x4 : Vec F S16x1024 .i8) (x5 : Vec F S1x128 .f32) (x6 : Vec F S1x128 .f32) (xs0 : Vec F S1536x2048 .bf16) : Vec F S1536x2048 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x2048 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 5 = 0 then
      if h1 : (n + 1) < 4 then
        if h2 : (n + 1) % 5 = 4 then
          False.elim (by have hN : n + 1 < 5 := lt_of_lt_of_eq hn (show cfg0.N = 5 from N_0); omega)
        else
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
      else
        False.elim (by have hN : n + 1 < 5 := lt_of_lt_of_eq hn (show cfg0.N = 5 from N_0); omega)
    else
      if h1 : (n + 1) < 4 then
        if h2 : (n + 1) % 5 = 4 then
          False.elim (by have hN : n + 1 < 5 := lt_of_lt_of_eq hn (show cfg0.N = 5 from N_0); omega)
        else
          sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))
      else
        if h2 : (n + 1) % 5 = 4 then
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))
        else
          False.elim (by have hN : n + 1 < 5 := lt_of_lt_of_eq hn (show cfg0.N = 5 from N_0); omega)

/-- `outsAt0` at a point of case A: that case's contents. -/
theorem outsAt0_A (c : Dev nD) (t : Fin cfg0.N) (h0 : t.val % 5 = 0) (h1 : t.val < 4) (h2 : ¬t.val % 5 = 4) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 5 = 0) (h1 : t.val < 4) (h2 : ¬t.val % 5 = 4) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 5 = 0) (h1 : ¬t.val < 4) (h2 : t.val % 5 = 4) :
    outsAt0 m c t.val t.isLt = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 5 := lt_of_lt_of_eq t.isLt (show cfg0.N = 5 from N_0)
  by_cases h0 : t.val % 5 = 0
  · by_cases h1 : t.val < 4
    · by_cases h2 : t.val % 5 = 4
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        by_cases hz : t.val = 0
        · rw [PhiS_castSucc m c t, PhiS_zero m c _ _ hz, PhiA0_eq]
          rw [outsAt0_A m c t h0 h1 h2]
          unfold sout0_A_0
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t)).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexists _; iexact H9
          isplitl [HS0]; · iexact HS0
          isplitl [HS1]; · iexact HS1
          iintro ⟨H0, H1, H2, H3, H4, H5, H6, H7, H8, H9, ⟨%es0, HS0⟩, HS1⟩
          isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _)
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexact H9
        · exfalso; have hN : t.val < 5 := lt_of_lt_of_eq t.isLt (show cfg0.N = 5 from N_0); omega
    · exfalso; omega
  · by_cases h1 : t.val < 4
    · by_cases h2 : t.val % 5 = 4
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        by_cases hz : t.val = 0
        · exfalso; have hN : t.val < 5 := lt_of_lt_of_eq t.isLt (show cfg0.N = 5 from N_0); omega
        · rw [PhiS_castSucc m c t, PhiS_pos m c _ _ hz]
          rw [outsAt0_B m c t h0 h1 h2]
          unfold sout0_B_0
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_B c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexists _; iexact H9
          isplitl [HS0]; · iexact HS0
          isplitl [HS1]; · iexact HS1
          iintro ⟨H0, H1, H2, H3, H4, H5, H6, H7, H8, H9, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexact H9
    · by_cases h2 : t.val % 5 = 4
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        by_cases hz : t.val = 0
        · exfalso; have hN : t.val < 5 := lt_of_lt_of_eq t.isLt (show cfg0.N = 5 from N_0); omega
        · rw [PhiS_castSucc m c t, PhiS_pos m c _ _ hz]
          rw [outsAt0_C m c t h0 h1 h2]
          unfold sout0_C_0
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_C c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) _).2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexists _; iexact H9
          isplitl [HS0]; · iexact HS0
          isplitl [HS1]; · iexact HS1
          iintro ⟨H0, H1, H2, H3, H4, H5, H6, H7, H8, H9, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          iexact H9
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 5 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F`: the arguments end unchanged and every
    semaphore counter ends at zero. Proof.lean cites it at `Bits`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Hand

end
-- ==== Proof.Setup.lean ====
/- What the runs of the idealized kernel's body share: its branch conditions in closed form over the grid's points, the
   windows it stores into at every point, its staging and scratch buffers. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [cond0_0, e0]
    word_cmp
   : ∀ t : Fin grid0.N, cond0_0 (grid0.coords t) ↔ t.val % 5 = 0)

/-- The condition of the body's `scf.if` 1 (`k0_h2`), from the grid coordinates (the skeleton's scalar
    chain substituted). -/
abbrev cond0_1 (i : grid0.Coords) : Prop := k0_cond2 i = 1#1
/-- It holds at the points before point 4 — decided over the grid. -/
theorem hcond0_1 : ∀ t : Fin cfg0.N, cond0_1 (grid0.coords t) ↔ t.val < 4 :=
  (by decide +kernel : ∀ t : Fin grid0.N, cond0_1 (grid0.coords t) ↔ t.val < 4)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 5 = 4 :=
  (fun t => by
    have ht : t.val < 5 := Nat.lt_of_lt_of_eq t.isLt N_0
    have e0 : (grid0.coords t 0).val = t.val / 1 % 5 := Pipeline.Grid.coords_val t 0 (by decide) rfl
    simp only [cond0_2, k0_cond3, e0]
    word_cmp
   : ∀ t : Fin grid0.N, cond0_2 (grid0.coords t) ↔ t.val % 5 = 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x8x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x4x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1536x4x128 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1536x2048 .bf16 := Memref.whole cc0_scratch0
abbrev scM0_1 : Memref sig .tc .vmem S2048x1024 .bf16 := Memref.whole cc0_scratch1
/-- The scratch `arg11` the kernel carries between points, as a view: what it holds is stated through it. -/
abbrev VS0_0 : View sig .tc .vmem S1536x2048 .bf16 := scM0_0.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.Blocks.lean ====
/- What the kernel's body leaves in its buffers at one grid point, as plain functions of the blocks it is given,
   at any float instance: the normalised activations (`hBlock`), the dequantised weight columns (`wBlock`), the
   normalised query and key heads (`qBlock`, `kBlock`) and the value heads (`vBlock`); and, for every counted loop of
   the body, that each piece its trips store is the matching part of that function. -/
module

public import proofs.«01_k».proof.Proof.Setup
public import Idealize.ShloMosaic.Lib.ValueIdx

@[expose] public section

set_option maxRecDepth 16384

noncomputable section

namespace Cert.KernelIdeal.Hand
open Cert.KernelIdeal.Gen
open Idealize.ShloMosaic Idealize.ShloMosaic.TcCoe Idealize.ShloMosaic.Tactic Idealize.ShloMosaic.ValueIdx

variable {F : FTy → Type} [FloatOps F]

/-- Rows `512·a …` of the activations. -/
def hRows (h : Vec F S1536x2048 .bf16) (a : ℕ) (ha : a < 3) : Vec F S512x2048 .bf16 :=
  fun j => h (ix2 ⟨512 * a + (j 0).val, by have := (j 0).isLt; change _ < 512 at this; omega⟩ (j 1))

/-- Columns `256·p …` of the block of weights. -/
def wCols (w : Vec F S2048x1024 .bf16) (p : ℕ) (hp : p < 4) : Vec F S2048x256 .bf16 :=
  fun j => w (ix2 (j 0) ⟨256 * p + (j 1).val, by have := (j 1).isLt; change _ < 256 at this; omega⟩)

/-- The normalised activations: 12 groups of 128 rows, each normalised on its own. -/
def hBlock (x : Vec F S1536x2048 .bf16) (g : Vec F S1x2048 .f32) : Vec F S1536x2048 .bf16 :=
  fun i => k0_pay11 g
    (fun j => x (ix2 ⟨128 * ((i 0).val / 128) + (j 0).val, by
      have hi := (i 0).isLt; have hj := (j 0).isLt; change _ < 1536 at hi; change _ < 128 at hj; omega⟩ (j 1)))
    (ix2 ⟨(i 0).val % 128, Nat.mod_lt _ (by decide)⟩ (i 1))

/-- The dequantised weights of one block of columns: 16 groups of 128 rows, each from its 64 packed rows, its row of
    zeros and its row of scales. -/
def wBlock (wp : Vec F S1024x1024 .i8) (ws : Vec F S16x1024 .bf16) (wz : Vec F S16x1024 .i8) : Vec F S2048x1024 .bf16 :=
  fun i => k0_pay29
    (fun j => wp (ix2 ⟨64 * ((i 0).val / 128) + (j 0).val, by
      have hi := (i 0).isLt; have hj := (j 0).isLt; change _ < 2048 at hi; change _ < 64 at hj; omega⟩ (j 1)))
    (fun j => wz (ix2 ⟨(i 0).val / 128, by have := (i 0).isLt; change _ < 2048 at this; omega⟩ (j 1)))
    (fun j => ws (ix2 ⟨(i 0).val / 128, by have := (i 0).isLt; change _ < 2048 at this; omega⟩ (j 1)))
    (ix2 ⟨(i 0).val % 128, Nat.mod_lt _ (by decide)⟩ (i 1))

/-- The eight query heads of one block of columns: per 512 rows and per pair of heads, the product normalised. -/
def qBlock (g : Vec F S1x128 .f32) (h : Vec F S1536x2048 .bf16) (w : Vec F S2048x1024 .bf16) : Vec F S1536x8x128 .bf16 :=
  fun i => k0_pay2 g
    (hRows h ((i 0).val / 512) (by have := (i 0).isLt; change _ < 1536 at this; omega))
    (wCols w ((i 1).val / 2) (by have := (i 1).isLt; change _ < 8 at this; omega))
    (ix3 ⟨(i 0).val % 512, Nat.mod_lt _ (by decide)⟩ ⟨(i 1).val % 2, Nat.mod_lt _ (by decide)⟩ (i 2))

/-- The four key heads: columns `0 … 511` of the last block, normalised as the queries are. -/
def kBlock (g : Vec F S1x128 .f32) (h : Vec F S1536x2048 .bf16) (w : Vec F S2048x1024 .bf16) : Vec F S1536x4x128 .bf16 :=
  fun i => k0_pay6 g
    (hRows h ((i 0).val / 512) (by have := (i 0).isLt; change _ < 1536 at this; omega))
    (wCols w ((i 1).val / 2) (by have := (i 1).isLt; change _ < 4 at this; omega))
    (ix3 ⟨(i 0).val % 512, Nat.mod_lt _ (by decide)⟩ ⟨(i 1).val % 2, Nat.mod_lt _ (by decide)⟩ (i 2))

/-- The four value heads: columns `512 … 1023` of the last block, not normalised. -/
def vBlock (h : Vec F S1536x2048 .bf16) (w : Vec F S2048x1024 .bf16) : Vec F S1536x4x128 .bf16 :=
  fun i => k0_pay8
    (hRows h ((i 0).val / 512) (by have := (i 0).isLt; change _ < 1536 at this; omega))
    (wCols w (2 + (i 1).val / 2) (by have := (i 1).isLt; change _ < 4 at this; omega))
    (ix3 ⟨(i 0).val % 512, Nat.mod_lt _ (by decide)⟩ ⟨(i 1).val % 2, Nat.mod_lt _ (by decide)⟩ (i 2))

/-- The list a recursion accumulates — nothing at `0`, trip `k`'s pieces put in front at `k + 1` — holds only what a
    trip contributes. -/
theorem mem_pieces {α : Type} (T : ℕ) (f : ℕ → List α) (L : Fin T → List α) (h0 : f 0 = [])
    (hs : ∀ k : Fin T, f (k.val + 1) = L k ++ f k.val) (Q : α → Prop) (hQ : ∀ k : Fin T, ∀ p ∈ L k, Q p) :
    ∀ n, n ≤ T → ∀ p ∈ f n, Q p
  | 0, _, p, hp => by rw [h0] at hp; cases hp
  | n + 1, hn, p, hp => by
    have e := hs ⟨n, hn⟩
    rw [e] at hp
    rcases List.mem_append.mp hp with h | h
    · exact hQ ⟨n, hn⟩ p h
    · exact mem_pieces T f L h0 hs Q hQ n (Nat.le_of_succ_le hn) p h

/-- A load of 512 rows of the activations reads the rows at its offset. -/
theorem ld_hRows (h : Vec F S1536x2048 .bf16) (off : Fin 2 → ℕ) (inb : ∀ a, off a + S512x2048.size a ≤ S1536x2048.size a)
    (a : ℕ) (ha : a < 3) (e : off = ![512 * a, 0]) :
    View.ld (Val := Elt F) h (Rect.unit (s := S1536x2048) off S512x2048.size inb) = hRows h a ha := by
  subst e
  funext j
  refine congrArg h (funext fun b => Fin.ext ?_)
  fin_cases b
  · simp [hRows, LoadRect.idx, Rect.unit]
  · simp [hRows, LoadRect.idx, Rect.unit]

/-- A load of 256 columns of the weights reads the columns at its offset. -/
theorem ld_wCols (w : Vec F S2048x1024 .bf16) (off : Fin 2 → ℕ) (inb : ∀ a, off a + S2048x256.size a ≤ S2048x1024.size a)
    (p : ℕ) (hp : p < 4) (e : off = ![0, 256 * p]) :
    View.ld (Val := Elt F) w (Rect.unit (s := S2048x1024) off S2048x256.size inb) = wCols w p hp := by
  subst e
  funext j
  refine congrArg w (funext fun b => Fin.ext ?_)
  fin_cases b
  · simp [wCols, LoadRect.idx, Rect.unit]
  · simp [wCols, LoadRect.idx, Rect.unit]

/-- A load of the whole row is the row. -/
theorem ld_row {n : ℕ} (g : Vec F ⟨2, ![1, n]⟩ .f32) (off : Fin 2 → ℕ) (inb : ∀ a, off a + ![1, n] a ≤ ![1, n] a)
    (e : off = ![0, 0]) :
    View.ld (Val := Elt F) g (Rect.unit (s := ⟨2, ![1, n]⟩) off ![1, n] inb) = g := by
  subst e
  funext j
  refine congrArg g (funext fun b => Fin.ext ?_)
  fin_cases b
  · have := (j 0).isLt; change _ < 1 at this; simp [LoadRect.idx, Rect.unit]; omega
  · simp [LoadRect.idx, Rect.unit]

/-- Where an index of a unit rectangle at known offsets lies, along one axis. -/
theorem emb_unit_of {s : Shape} (off off' : Fin s.rank → ℕ) (size : Fin s.rank → ℕ)
    (inb : ∀ a, off a + size a ≤ s.size a) (x : (Rect.unit (s := s) off size inb).shape.Idx) (a : Fin s.rank)
    (e : off = off') : ((Rect.unit (s := s) off size inb).emb x a).val = off' a + (x a).val := by
  subst e
  change off a + 1 * (x a).val = _
  rw [one_mul]

/-- The query heads at an index whose rows are of group `a` and heads of pair `p`. -/
theorem qBlock_at (g : Vec F S1x128 .f32) (h : Vec F S1536x2048 .bf16) (w : Vec F S2048x1024 .bf16) (a p : ℕ)
    (ha : a < 3) (hp : p < 4) (x : S512x2x128.Idx) (y : S1536x8x128.Idx) (h0 : (y 0).val = 512 * a + (x 0).val)
    (h1 : (y 1).val = 2 * p + (x 1).val) (h2 : (y 2).val = (x 2).val) :
    k0_pay2 g (hRows h a ha) (wCols w p hp) x = qBlock g h w y := by
  have b0 := (x 0).isLt; change _ < 512 at b0
  have b1 := (x 1).isLt; change _ < 2 at b1
  have ea : a = (y 0).val / 512 := by omega
  have ep : p = (y 1).val / 2 := by omega
  subst ea; subst ep
  unfold qBlock
  refine congrArg _ (funext fun b => Fin.ext ?_)
  fin_cases b
  · change (x 0).val = (y 0).val % 512; omega
  · change (x 1).val = (y 1).val % 2; omega
  · exact h2.symm

/-- The key heads at an index whose rows are of group `a` and heads of pair `p`. -/
theorem kBlock_at (g : Vec F S1x128 .f32) (h : Vec F S1536x2048 .bf16) (w : Vec F S2048x1024 .bf16) (a p : ℕ)
    (ha : a < 3) (hp : p < 2) (x : S512x2x128.Idx) (y : S1536x4x128.Idx) (h0 : (y 0).val = 512 * a + (x 0).val)
    (h1 : (y 1).val = 2 * p + (x 1).val) (h2 : (y 2).val = (x 2).val) :
    k0_pay6 g (hRows h a ha) (wCols w p (by omega)) x = kBlock g h w y := by
  have b0 := (x 0).isLt; change _ < 512 at b0
  have b1 := (x 1).isLt; change _ < 2 at b1
  have ea : a = (y 0).val / 512 := by omega
  have ep : p = (y 1).val / 2 := by omega
  subst ea; subst ep
  unfold kBlock
  refine congrArg _ (funext fun b => Fin.ext ?_)
  fin_cases b
  · change (x 0).val = (y 0).val % 512; omega
  · change (x 1).val = (y 1).val % 2; omega
  · exact h2.symm

/-- The value heads at an index whose rows are of group `a` and heads of pair `p`. -/
theorem vBlock_at (h : Vec F S1536x2048 .bf16) (w : Vec F S2048x1024 .bf16) (a p : ℕ)
    (ha : a < 3) (hp : p < 2) (x : S512x2x128.Idx) (y : S1536x4x128.Idx) (h0 : (y 0).val = 512 * a + (x 0).val)
    (h1 : (y 1).val = 2 * p + (x 1).val) (h2 : (y 2).val = (x 2).val) :
    k0_pay8 (hRows h a ha) (wCols w (2 + p) (by omega)) x = vBlock h w y := by
  have b0 := (x 0).isLt; change _ < 512 at b0
  have b1 := (x 1).isLt; change _ < 2 at b1
  have ea : a = (y 0).val / 512 := by omega
  have ep : p = (y 1).val / 2 := by omega
  subst ea; subst ep
  unfold vBlock
  refine congrArg _ (funext fun b => Fin.ext ?_)
  fin_cases b
  · change (x 0).val = (y 0).val % 512; omega
  · change (x 1).val = (y 1).val % 2; omega
  · exact h2.symm

/-- The stores that fill the weights: group `a`'s 128 rows, from what the packed rows, zeros and scales hold. -/
def wPieces (arg3 : Memref sig .tc .vmem S1024x1024 .i8) (arg4 : Memref sig .tc .vmem S16x1024 .bf16)
    (arg5 : Memref sig .tc .vmem S16x1024 .i8) (f3 : BufTy.Contents (Elt F) arg3.view.ty)
    (f4 : BufTy.Contents (Elt F) arg4.view.ty) (f5 : BufTy.Contents (Elt F) arg5.view.ty) :
    List (View.Piece (Elt F) S2048x1024 .bf16) :=
  ((List.finRange 16).map fun a : Fin 16 =>
    (⟨Rect.unit (s := S2048x1024) ![128 * a.val, 0] S128x1024.size (by
        intro b; have := a.isLt; fin_cases b
        · change 128 * a.val + 128 ≤ 2048; omega
        · change 0 + 1024 ≤ 1024; omega),
      k0_pay29
        (View.readAt (Elt F) arg3.view (Rect.unit (s := S1024x1024) ![64 * a.val, 0] S64x1024.size (by
          intro b; have := a.isLt; fin_cases b
          · change 64 * a.val + 64 ≤ 1024; omega
          · change 0 + 1024 ≤ 1024; omega)).toLoadRect f3)
        (View.readAt (Elt F) arg5.view (Rect.unit (s := S16x1024) ![a.val, 0] S1x1024.size (by
          intro b; have := a.isLt; fin_cases b
          · change a.val + 1 ≤ 16; omega
          · change 0 + 1024 ≤ 1024; omega)).toLoadRect f5)
        (View.readAt (Elt F) arg4.view (Rect.unit (s := S16x1024) ![a.val, 0] S1x1024.size (by
          intro b; have := a.isLt; fin_cases b
          · change a.val + 1 ≤ 16; omega
          · change 0 + 1024 ≤ 1024; omega)).toLoadRect f4)⟩ : View.Piece (Elt F) S2048x1024 .bf16)).reverse

/-- A load through a rectangle of unit strides at an index. -/
theorem ld_unit2 {n0 n1 : ℕ} {e : EltTy} (X : (⟨2, ![n0, n1]⟩ : Shape).Idx → Elt F e) (off size : Fin 2 → ℕ)
    (inb : ∀ a, off a + size a ≤ (![n0, n1] : Fin 2 → ℕ) a) (j : (Rect.unit (s := ⟨2, ![n0, n1]⟩) off size inb).shape.Idx)
    (k : (⟨2, ![n0, n1]⟩ : Shape).Idx) (h0 : (k 0).val = off 0 + (j 0).val) (h1 : (k 1).val = off 1 + (j 1).val) :
    View.ld (Val := Elt F) X (Rect.unit (s := ⟨2, ![n0, n1]⟩) off size inb) j = X k := by
  refine congrArg X (funext fun b => Fin.ext ?_)
  fin_cases b
  · exact (congrArg (off 0 + ·) (Nat.one_mul _)).trans h0.symm
  · exact (congrArg (off 1 + ·) (Nat.one_mul _)).trans h1.symm

/-- The stores that fill the weights leave the dequantised block. -/
theorem wRead (arg3 : Memref sig .tc .vmem S1024x1024 .i8) (arg4 : Memref sig .tc .vmem S16x1024 .bf16)
    (arg5 : Memref sig .tc .vmem S16x1024 .i8) (arg12 : Memref sig .tc .vmem S2048x1024 .bf16)
    (f3 : BufTy.Contents (Elt F) arg3.view.ty) (f4 : BufTy.Contents (Elt F) arg4.view.ty)
    (f5 : BufTy.Contents (Elt F) arg5.view.ty) (f12 : BufTy.Contents (Elt F) arg12.view.ty)
    (wp : Vec F S1024x1024 .i8) (ws : Vec F S16x1024 .bf16) (wz : Vec F S16x1024 .i8)
    (h3 : arg3.view.read (Elt F) f3 = wp) (h4 : arg4.view.read (Elt F) f4 = ws) (h5 : arg5.view.read (Elt F) f5 = wz)
    (L : List (View.Piece (Elt F) S2048x1024 .bf16)) (hL : L = wPieces arg3 arg4 arg5 f3 f4 f5) :
    arg12.view.read (Elt F) (arg12.view.writes (Elt F) f12 L) = wBlock wp ws wz := by
  subst hL
  funext y
  refine View.read_writes_apply_of_pieces arg12.view _ (wBlock wp ws wz) _ ?_ y
    (View.cover_of_tiledL (s := S2048x1024) _ S128x1024.size (by sl_kernel_rfl) y)
  intro p hp x
  obtain ⟨a, -, rfl⟩ := List.mem_map.mp (List.mem_reverse.mp hp)
  have hx := (x 0).isLt
  change _ < 128 at hx
  have e0 : ((Rect.unit (s := S2048x1024) ![128 * a.val, 0] S128x1024.size _).emb x 0).val = 128 * a.val + (x 0).val :=
    emb_unit_of _ _ _ (by
        intro b; have := a.isLt; fin_cases b
        · change 128 * a.val + 128 ≤ 2048; omega
        · change 0 + 1024 ≤ 1024; omega) x 0 rfl
  have e1 : ((Rect.unit (s := S2048x1024) ![128 * a.val, 0] S128x1024.size _).emb x 1).val = (x 1).val :=
    (emb_unit_of _ _ _ (by
        intro b; have := a.isLt; fin_cases b
        · change 128 * a.val + 128 ≤ 2048; omega
        · change 0 + 1024 ≤ 1024; omega) x 1 rfl).trans (Nat.zero_add _)
  generalize (Rect.unit (s := S2048x1024) ![128 * a.val, 0] S128x1024.size _).emb x = y at e0 e1 ⊢
  change k0_pay29 _ _ _ x = k0_pay29 _ _ _ _
  rw [View.readAt_eq_ld, View.readAt_eq_ld, View.readAt_eq_ld, h3, h4, h5]
  have hd : (y 0).val / 128 = a.val := by omega
  refine congr (congr (congr (congrArg k0_pay29 ?_) ?_) ?_) ?_
  · funext j
    refine ld_unit2 wp _ _ _ j _ ?_ ?_
    · change 64 * ((y 0).val / 128) + (j 0).val = 64 * a.val + (j 0).val; rw [hd]
    · exact (Nat.zero_add _).symm
  · funext j
    have hj := (j 0).isLt
    change _ < 1 at hj
    refine ld_unit2 wz _ _ _ j _ ?_ ?_
    · change (y 0).val / 128 = a.val + (j 0).val; omega
    · exact (Nat.zero_add _).symm
  · funext j
    have hj := (j 0).isLt
    change _ < 1 at hj
    refine ld_unit2 ws _ _ _ j _ ?_ ?_
    · change (y 0).val / 128 = a.val + (j 0).val; omega
    · exact (Nat.zero_add _).symm
  · refine funext fun b => Fin.ext ?_
    fin_cases b
    · change (x 0).val = (y 0).val % 128; omega
    · exact e1.symm

/-- The stores that fill the activations: group `a`'s 128 rows, from the rows of the input and the weight row. -/
def hPieces (arg1 : Memref sig .tc .vmem S1536x2048 .bf16) (arg2 : Memref sig .tc .vmem S1x2048 .f32)
    (f1 : BufTy.Contents (Elt F) arg1.view.ty) (f2 : BufTy.Contents (Elt F) arg2.view.ty) :
    List (View.Piece (Elt F) S1536x2048 .bf16) :=
  ((List.finRange 12).map fun a : Fin 12 =>
    (⟨Rect.unit (s := S1536x2048) ![128 * a.val, 0] S128x2048.size (by
        intro b; have := a.isLt; fin_cases b
        · change 128 * a.val + 128 ≤ 1536; omega
        · change 0 + 2048 ≤ 2048; omega),
      k0_pay11
        (View.readAt (Elt F) arg2.view (Rect.unit (s := S1x2048) ![0, 0] S1x2048.size inb_S1x2048_S1x2048_0_0).toLoadRect f2)
        (View.readAt (Elt F) arg1.view (Rect.unit (s := S1536x2048) ![128 * a.val, 0] S128x2048.size (by
          intro b; have := a.isLt; fin_cases b
          · change 128 * a.val + 128 ≤ 1536; omega
          · change 0 + 2048 ≤ 2048; omega)).toLoadRect f1)⟩ : View.Piece (Elt F) S1536x2048 .bf16)).reverse

/-- The stores that fill the activations leave the normalised block. -/
theorem hRead (arg1 : Memref sig .tc .vmem S1536x2048 .bf16) (arg2 : Memref sig .tc .vmem S1x2048 .f32)
    (arg11 : Memref sig .tc .vmem S1536x2048 .bf16)
    (f1 : BufTy.Contents (Elt F) arg1.view.ty) (f2 : BufTy.Contents (Elt F) arg2.view.ty)
    (f11 : BufTy.Contents (Elt F) arg11.view.ty) (x : Vec F S1536x2048 .bf16) (g : Vec F S1x2048 .f32)
    (h1 : arg1.view.read (Elt F) f1 = x) (h2 : arg2.view.read (Elt F) f2 = g)
    (L : List (View.Piece (Elt F) S1536x2048 .bf16)) (hL : L = hPieces arg1 arg2 f1 f2) :
    arg11.view.read (Elt F) (arg11.view.writes (Elt F) f11 L) = hBlock x g := by
  subst hL
  funext y
  refine View.read_writes_apply_of_pieces arg11.view _ (hBlock x g) _ ?_ y
    (View.cover_of_tiledL (s := S1536x2048) _ S128x2048.size (by sl_kernel_rfl) y)
  intro p hp z
  obtain ⟨a, -, rfl⟩ := List.mem_map.mp (List.mem_reverse.mp hp)
  have hz := (z 0).isLt
  change _ < 128 at hz
  have e0 : ((Rect.unit (s := S1536x2048) ![128 * a.val, 0] S128x2048.size _).emb z 0).val = 128 * a.val + (z 0).val :=
    emb_unit_of _ _ _ (by
        intro b; have := a.isLt; fin_cases b
        · change 128 * a.val + 128 ≤ 1536; omega
        · change 0 + 2048 ≤ 2048; omega) z 0 rfl
  have e1 : ((Rect.unit (s := S1536x2048) ![128 * a.val, 0] S128x2048.size _).emb z 1).val = (z 1).val :=
    (emb_unit_of _ _ _ (by
        intro b; have := a.isLt; fin_cases b
        · change 128 * a.val + 128 ≤ 1536; omega
        · change 0 + 2048 ≤ 2048; omega) z 1 rfl).trans (Nat.zero_add _)
  generalize (Rect.unit (s := S1536x2048) ![128 * a.val, 0] S128x2048.size _).emb z = y at e0 e1 ⊢
  change k0_pay11 _ _ z = k0_pay11 _ _ _
  rw [View.readAt_eq_ld, View.readAt_eq_ld, h1, h2]
  have hd : (y 0).val / 128 = a.val := by omega
  refine congr (congr (congrArg k0_pay11 ?_) ?_) ?_
  · exact ld_row g _ _ rfl
  · funext j
    refine ld_unit2 x _ _ _ j _ ?_ ?_
    · change 128 * ((y 0).val / 128) + (j 0).val = 128 * a.val + (j 0).val; rw [hd]
    · exact (Nat.zero_add _).symm
  · refine funext fun b => Fin.ext ?_
    fin_cases b
    · change (z 0).val = (y 0).val % 128; omega
    · exact e1.symm

section Loops

variable (c : Dev nD) (i : grid0.Coords) (arg1 : Memref sig .tc .vmem S1536x2048 .bf16)
  (harg1 : arg1.IsWhole)
  (arg2 : Memref sig .tc .vmem S1x2048 .f32)
  (harg2 : arg2.IsWhole)
  (arg3 : Memref sig .tc .vmem S1024x1024 .i8)
  (harg3 : arg3.IsWhole)
  (arg4 : Memref sig .tc .vmem S16x1024 .bf16)
  (harg4 : arg4.IsWhole)
  (arg5 : Memref sig .tc .vmem S16x1024 .i8)
  (harg5 : arg5.IsWhole)
  (arg6 : Memref sig .tc .vmem S1x128 .f32)
  (harg6 : arg6.IsWhole)
  (arg7 : Memref sig .tc .vmem S1x128 .f32)
  (harg7 : arg7.IsWhole)
  (arg8 : Memref sig .tc .vmem S1536x8x128 .bf16)
  (harg8 : arg8.IsWhole)
  (arg9 : Memref sig .tc .vmem S1536x4x128 .bf16)
  (harg9 : arg9.IsWhole)
  (arg10 : Memref sig .tc .vmem S1536x4x128 .bf16)
  (harg10 : arg10.IsWhole)
  (arg11 : Memref sig .tc .vmem S1536x2048 .bf16)
  (harg11 : arg11.IsWhole)
  (arg12 : Memref sig .tc .vmem S2048x1024 .bf16)
  (harg12 : arg12.IsWhole)

/-- Every piece loop 1 stores is part of the query heads of the activations and weights held. -/
theorem pieces_t1 (k0_h2 : k0_cond2 i = 1#1) (g : Vec F S1x128 .f32) (X : BufTy.Contents (Elt F) arg11.view.ty) (Y : BufTy.Contents (Elt F) arg12.view.ty)
    (h : Vec F S1536x2048 .bf16) (w : Vec F S2048x1024 .bf16) (hX : arg11.view.read (Elt F) X = h) (hY : arg12.view.read (Elt F) Y = w) :
    ∀ p ∈ pb_k0_t1 (F := F) Variants.none c none i arg1 harg1 arg2 harg2 arg3 harg3 arg4 harg4 arg5 harg5 arg6 harg6 arg7 harg7 arg8 harg8 arg9 harg9 arg10 harg10 arg11 harg11 arg12 harg12 k0_h2 g X Y k0_t1_loop.trips,
      ∀ x, p.2 x = qBlock g h w (p.1.emb x) := by
  refine mem_pieces k0_t1_loop.trips _ (fun k => tripL_k0_t1 (F := F) Variants.none c none i arg1 harg1 arg2 harg2 arg3 harg3 arg4 harg4 arg5 harg5 arg6 harg6 arg7 harg7 arg8 harg8 arg9 harg9 arg10 harg10 arg11 harg11 arg12 harg12 k0_h2 g X Y k) rfl
    (fun k => pb_k0_t1_succ (F := F) Variants.none c none i arg1 harg1 arg2 harg2 arg3 harg3 arg4 harg4 arg5 harg5 arg6 harg6 arg7 harg7 arg8 harg8 arg9 harg9 arg10 harg10 arg11 harg11 arg12 harg12 k0_h2 g X Y k) _ ?_ _ le_rfl
  intro k p hp x
  have hk : k.val < 3 := Nat.lt_of_lt_of_le k.isLt k0_t1_abs.2.1
  have e : tripL_k0_t1 (F := F) Variants.none c none i arg1 harg1 arg2 harg2 arg3 harg3 arg4 harg4 arg5 harg5 arg6 harg6 arg7 harg7 arg8 harg8 arg9 harg9 arg10 harg10 arg11 harg11 arg12 harg12 k0_h2 g X Y k
      = [⟨Rect.unit (k0_off2 k) S512x2x128.size (k0_off2_inb i k k0_h2), k0_pay2 g
          (View.readAt (Elt F) arg11.view (Rect.unit (s := S1536x2048) (k0_off1 k) S512x2048.size (k0_off1_inb i k k0_h2)).toLoadRect X)
          (View.readAt (Elt F) arg12.view (Rect.unit (s := S2048x1024) ![0, 0] S2048x256.size inb_S2048x1024_S2048x256_0_0).toLoadRect Y)⟩] := by
    sl_kernel_rfl
  rw [e] at hp
  obtain rfl := List.mem_singleton.mp hp
  refine Eq.trans ?_ (qBlock_at g h w k.val 0 hk (by decide) x _ ?_ ?_ ?_)
  · change k0_pay2 g _ _ x = _
    rw [View.readAt_eq_ld, View.readAt_eq_ld, hX, hY, ld_hRows h _ _ k.val hk (k0_off1_eq k), ld_wCols w _ _ 0 (by decide) rfl]
    all_goals rfl
  · exact emb_unit_of _ _ _ (k0_off2_inb i k k0_h2) x 0 (k0_off2_eq k)
  · exact emb_unit_of _ _ _ (k0_off2_inb i k k0_h2) x 1 (k0_off2_eq k)
  · exact (emb_unit_of _ _ _ (k0_off2_inb i k k0_h2) x 2 (k0_off2_eq k)).trans (Nat.zero_add _)

/-- Every piece loop 2 stores is part of the query heads of the activations and weights held. -/
theorem pieces_t2 (k0_h2 : k0_cond2 i = 1#1) (g : Vec F S1x128 .f32) (X : BufTy.Contents (Elt F) arg11.view.ty) (Y : BufTy.Contents (Elt F) arg12.view.ty)
    (h : Vec F S1536x2048 .bf16) (w : Vec F S2048x1024 .bf16) (hX : arg11.view.read (Elt F) X = h) (hY : arg12.view.read (Elt F) Y = w) :
    ∀ p ∈ pb_k0_t2 (F := F) Variants.none c none i arg1 harg1 arg2 harg2 arg3 harg3 arg4 harg4 arg5 harg5 arg6 harg6 arg7 harg7 arg8 harg8 arg9 harg9 arg10 harg10 arg11 harg11 arg12 harg12 k0_h2 g X Y k0_t2_loop.trips,
      ∀ x, p.2 x = qBlock g h w (p.1.emb x) := by
  refine mem_pieces k0_t2_loop.trips _ (fun k => tripL_k0_t2 (F := F) Variants.none c none i arg1 harg1 arg2 harg2 arg3 harg3 arg4 harg4 arg5 harg5 arg6 harg6 arg7 harg7 arg8 harg8 arg9 harg9 arg10 harg10 arg11 harg11 arg12 harg12 k0_h2 g X Y k) rfl
    (fun k => pb_k0_t2_succ (F := F) Variants.none c none i arg1 harg1 arg2 harg2 arg3 harg3 arg4 harg4 arg5 harg5 arg6 harg6 arg7 harg7 arg8 harg8 arg9 harg9 arg10 harg10 arg11 harg11 arg12 harg12 k0_h2 g X Y k) _ ?_ _ le_rfl
  intro k p hp x
  have hk : k.val < 3 := Nat.lt_of_lt_of_le k.isLt k0_t2_abs.2.1
  have e : tripL_k0_t2 (F := F) Variants.none c none i arg1 harg1 arg2 harg2 arg3 harg3 arg4 harg4 arg5 harg5 arg6 harg6 arg7 harg7 arg8 harg8 arg9 harg9 arg10 harg10 arg11 harg11 arg12 harg12 k0_h2 g X Y k
      = [⟨Rect.unit (k0_off4 k) S512x2x128.size (k0_off4_inb i k k0_h2), k0_pay3 g
          (View.readAt (Elt F) arg11.view (Rect.unit (s := S1536x2048) (k0_off3 k) S512x2048.size (k0_off3_inb i k k0_h2)).toLoadRect X)
          (View.readAt (Elt F) arg12.view (Rect.unit (s := S2048x1024) ![0, 256] S2048x256.size inb_S2048x1024_S2048x256_0_256).toLoadRect Y)⟩] := by
    sl_kernel_rfl
  rw [e] at hp
  obtain rfl := List.mem_singleton.mp hp
  refine Eq.trans ?_ (qBlock_at g h w k.val 1 hk (by decide) x _ ?_ ?_ ?_)
  · change k0_pay3 g _ _ x = _
    rw [View.readAt_eq_ld, View.readAt_eq_ld, hX, hY, ld_hRows h _ _ k.val hk (k0_off3_eq k), ld_wCols w _ _ 1 (by decide) rfl]
    all_goals rfl
  · exact emb_unit_of _ _ _ (k0_off4_inb i k k0_h2) x 0 (k0_off4_eq k)
  · exact emb_unit_of _ _ _ (k0_off4_inb i k k0_h2) x 1 (k0_off4_eq k)
  · exact (emb_unit_of _ _ _ (k0_off4_inb i k k0_h2) x 2 (k0_off4_eq k)).trans (Nat.zero_add _)

/-- Every piece loop 3 stores is part of the query heads of the activations and weights held. -/
theorem pieces_t3 (k0_h2 : k0_cond2 i = 1#1) (g : Vec F S1x128 .f32) (X : BufTy.Contents (Elt F) arg11.view.ty) (Y : BufTy.Contents (Elt F) arg12.view.ty)
    (h : Vec F S1536x2048 .bf16) (w : Vec F S2048x1024 .bf16) (hX : arg11.view.read (Elt F) X = h) (hY : arg12.view.read (Elt F) Y = w) :
    ∀ p ∈ pb_k0_t3 (F := F) Variants.none c none i arg1 harg1 arg2 harg2 arg3 harg3 arg4 harg4 arg5 harg5 arg6 harg6 arg7 harg7 arg8 harg8 arg9 harg9 arg10 harg10 arg11 harg11 arg12 harg12 k0_h2 g X Y k0_t3_loop.trips,
      ∀ x, p.2 x = qBlock g h w (p.1.emb x) := by
  refine mem_pieces k0_t3_loop.trips _ (fun k => tripL_k0_t3 (F := F) Variants.none c none i arg1 harg1 arg2 harg2 arg3 harg3 arg4 harg4 arg5 harg5 arg6 harg6 arg7 harg7 arg8 harg8 arg9 harg9 arg10 harg10 arg11 harg11 arg12 harg12 k0_h2 g X Y k) rfl
    (fun k => pb_k0_t3_succ (F := F) Variants.none c none i arg1 harg1 arg2 harg2 arg3 harg3 arg4 harg4 arg5 harg5 arg6 harg6 arg7 harg7 arg8 harg8 arg9 harg9 arg10 harg10 arg11 harg11 arg12 harg12 k0_h2 g X Y k) _ ?_ _ le_rfl
  intro k p hp x
  have hk : k.val < 3 := Nat.lt_of_lt_of_le k.isLt k0_t3_abs.2.1
  have e : tripL_k0_t3 (F := F) Variants.none c none i arg1 harg1 arg2 harg2 arg3 harg3 arg4 harg4 arg5 harg5 arg6 harg6 arg7 harg7 arg8 harg8 arg9 harg9 arg10 harg10 arg11 harg11 arg12 harg12 k0_h2 g X Y k
      = [⟨Rect.unit (k0_off6 k) S512x2x128.size (k0_off6_inb i k k0_h2), k0_pay4 g
          (View.readAt (Elt F) arg11.view (Rect.unit (s := S1536x2048) (k0_off5 k) S512x2048.size (k0_off5_inb i k k0_h2)).toLoadRect X)
          (View.readAt (Elt F) arg12.view (Rect.unit (s := S2048x1024) ![0, 512] S2048x256.size inb_S2048x1024_S2048x256_0_512).toLoadRect Y)⟩] := by
    sl_kernel_rfl
  rw [e] at hp
  obtain rfl := List.mem_singleton.mp hp
  refine Eq.trans ?_ (qBlock_at g h w k.val 2 hk (by decide) x _ ?_ ?_ ?_)
  · change k0_pay4 g _ _ x = _
    rw [View.readAt_eq_ld, View.readAt_eq_ld, hX, hY, ld_hRows h _ _ k.val hk (k0_off5_eq k), ld_wCols w _ _ 2 (by decide) rfl]
    all_goals rfl
  · exact emb_unit_of _ _ _ (k0_off6_inb i k k0_h2) x 0 (k0_off6_eq k)
  · exact emb_unit_of _ _ _ (k0_off6_inb i k k0_h2) x 1 (k0_off6_eq k)
  · exact (emb_unit_of _ _ _ (k0_off6_inb i k k0_h2) x 2 (k0_off6_eq k)).trans (Nat.zero_add _)

/-- Every piece loop 4 stores is part of the query heads of the activations and weights held. -/
theorem pieces_t4 (k0_h2 : k0_cond2 i = 1#1) (g : Vec F S1x128 .f32) (X : BufTy.Contents (Elt F) arg11.view.ty) (Y : BufTy.Contents (Elt F) arg12.view.ty)
    (h : Vec F S1536x2048 .bf16) (w : Vec F S2048x1024 .bf16) (hX : arg11.view.read (Elt F) X = h) (hY : arg12.view.read (Elt F) Y = w) :
    ∀ p ∈ pb_k0_t4 (F := F) Variants.none c none i arg1 harg1 arg2 harg2 arg3 harg3 arg4 harg4 arg5 harg5 arg6 harg6 arg7 harg7 arg8 harg8 arg9 harg9 arg10 harg10 arg11 harg11 arg12 harg12 k0_h2 g X Y k0_t4_loop.trips,
      ∀ x, p.2 x = qBlock g h w (p.1.emb x) := by
  refine mem_pieces k0_t4_loop.trips _ (fun k => tripL_k0_t4 (F := F) Variants.none c none i arg1 harg1 arg2 harg2 arg3 harg3 arg4 harg4 arg5 harg5 arg6 harg6 arg7 harg7 arg8 harg8 arg9 harg9 arg10 harg10 arg11 harg11 arg12 harg12 k0_h2 g X Y k) rfl
    (fun k => pb_k0_t4_succ (F := F) Variants.none c none i arg1 harg1 arg2 harg2 arg3 harg3 arg4 harg4 arg5 harg5 arg6 harg6 arg7 harg7 arg8 harg8 arg9 harg9 arg10 harg10 arg11 harg11 arg12 harg12 k0_h2 g X Y k) _ ?_ _ le_rfl
  intro k p hp x
  have hk : k.val < 3 := Nat.lt_of_lt_of_le k.isLt k0_t4_abs.2.1
  have e : tripL_k0_t4 (F := F) Variants.none c none i arg1 harg1 arg2 harg2 arg3 harg3 arg4 harg4 arg5 harg5 arg6 harg6 arg7 harg7 arg8 harg8 arg9 harg9 arg10 harg10 arg11 harg11 arg12 harg12 k0_h2 g X Y k
      = [⟨Rect.unit (k0_off8 k) S512x2x128.size (k0_off8_inb i k k0_h2), k0_pay5 g
          (View.readAt (Elt F) arg11.view (Rect.unit (s := S1536x2048) (k0_off7 k) S512x2048.size (k0_off7_inb i k k0_h2)).toLoadRect X)
          (View.readAt (Elt F) arg12.view (Rect.unit (s := S2048x1024) ![0, 768] S2048x256.size inb_S2048x1024_S2048x256_0_768).toLoadRect Y)⟩] := by
    sl_kernel_rfl
  rw [e] at hp
  obtain rfl := List.mem_singleton.mp hp
  refine Eq.trans ?_ (qBlock_at g h w k.val 3 hk (by decide) x _ ?_ ?_ ?_)
  · change k0_pay5 g _ _ x = _
    rw [View.readAt_eq_ld, View.readAt_eq_ld, hX, hY, ld_hRows h _ _ k.val hk (k0_off7_eq k), ld_wCols w _ _ 3 (by decide) rfl]
    all_goals rfl
  · exact emb_unit_of _ _ _ (k0_off8_inb i k k0_h2) x 0 (k0_off8_eq k)
  · exact emb_unit_of _ _ _ (k0_off8_inb i k k0_h2) x 1 (k0_off8_eq k)
  · exact (emb_unit_of _ _ _ (k0_off8_inb i k k0_h2) x 2 (k0_off8_eq k)).trans (Nat.zero_add _)

/-- Every piece loop 5 stores is part of the key heads of the activations and weights held. -/
theorem pieces_t5 (k0_h3 : k0_cond3 i = 1#1) (g : Vec F S1x128 .f32) (X : BufTy.Contents (Elt F) arg11.view.ty) (Y : BufTy.Contents (Elt F) arg12.view.ty)
    (h : Vec F S1536x2048 .bf16) (w : Vec F S2048x1024 .bf16) (hX : arg11.view.read (Elt F) X = h) (hY : arg12.view.read (Elt F) Y = w) :
    ∀ p ∈ pb_k0_t5 (F := F) Variants.none c none i arg1 harg1 arg2 harg2 arg3 harg3 arg4 harg4 arg5 harg5 arg6 harg6 arg7 harg7 arg8 harg8 arg9 harg9 arg10 harg10 arg11 harg11 arg12 harg12 k0_h3 g X Y k0_t5_loop.trips,
      ∀ x, p.2 x = kBlock g h w (p.1.emb x) := by
  refine mem_pieces k0_t5_loop.trips _ (fun k => tripL_k0_t5 (F := F) Variants.none c none i arg1 harg1 arg2 harg2 arg3 harg3 arg4 harg4 arg5 harg5 arg6 harg6 arg7 harg7 arg8 harg8 arg9 harg9 arg10 harg10 arg11 harg11 arg12 harg12 k0_h3 g X Y k) rfl
    (fun k => pb_k0_t5_succ (F := F) Variants.none c none i arg1 harg1 arg2 harg2 arg3 harg3 arg4 harg4 arg5 harg5 arg6 harg6 arg7 harg7 arg8 harg8 arg9 harg9 arg10 harg10 arg11 harg11 arg12 harg12 k0_h3 g X Y k) _ ?_ _ le_rfl
  intro k p hp x
  have hk : k.val < 3 := Nat.lt_of_lt_of_le k.isLt k0_t5_abs.2.1
  have e : tripL_k0_t5 (F := F) Variants.none c none i arg1 harg1 arg2 harg2 arg3 harg3 arg4 harg4 arg5 harg5 arg6 harg6 arg7 harg7 arg8 harg8 arg9 harg9 arg10 harg10 arg11 harg11 arg12 harg12 k0_h3 g X Y k
      = [⟨Rect.unit (k0_off10 k) S512x2x128.size (k0_off10_inb i k k0_h3), k0_pay6 g
          (View.readAt (Elt F) arg11.view (Rect.unit (s := S1536x2048) (k0_off9 k) S512x2048.size (k0_off9_inb i k k0_h3)).toLoadRect X)
          (View.readAt (Elt F) arg12.view (Rect.unit (s := S2048x1024) ![0, 0] S2048x256.size inb_S2048x1024_S2048x256_0_0).toLoadRect Y)⟩] := by
    sl_kernel_rfl
  rw [e] at hp
  obtain rfl := List.mem_singleton.mp hp
  refine Eq.trans ?_ (kBlock_at g h w k.val 0 hk (by decide) x _ ?_ ?_ ?_)
  · change k0_pay6 g _ _ x = _
    rw [View.readAt_eq_ld, View.readAt_eq_ld, hX, hY, ld_hRows h _ _ k.val hk (k0_off9_eq k), ld_wCols w _ _ 0 (by decide) rfl]
    all_goals rfl
  · exact emb_unit_of _ _ _ (k0_off10_inb i k k0_h3) x 0 (k0_off10_eq k)
  · exact emb_unit_of _ _ _ (k0_off10_inb i k k0_h3) x 1 (k0_off10_eq k)
  · exact (emb_unit_of _ _ _ (k0_off10_inb i k k0_h3) x 2 (k0_off10_eq k)).trans (Nat.zero_add _)

/-- Every piece loop 6 stores is part of the key heads of the activations and weights held. -/
theorem pieces_t6 (k0_h3 : k0_cond3 i = 1#1) (g : Vec F S1x128 .f32) (X : BufTy.Contents (Elt F) arg11.view.ty) (Y : BufTy.Contents (Elt F) arg12.view.ty)
    (h : Vec F S1536x2048 .bf16) (w : Vec F S2048x1024 .bf16) (hX : arg11.view.read (Elt F) X = h) (hY : arg12.view.read (Elt F) Y = w) :
    ∀ p ∈ pb_k0_t6 (F := F) Variants.none c none i arg1 harg1 arg2 harg2 arg3 harg3 arg4 harg4 arg5 harg5 arg6 harg6 arg7 harg7 arg8 harg8 arg9 harg9 arg10 harg10 arg11 harg11 arg12 harg12 k0_h3 g X Y k0_t6_loop.trips,
      ∀ x, p.2 x = kBlock g h w (p.1.emb x) := by
  refine mem_pieces k0_t6_loop.trips _ (fun k => tripL_k0_t6 (F := F) Variants.none c none i arg1 harg1 arg2 harg2 arg3 harg3 arg4 harg4 arg5 harg5 arg6 harg6 arg7 harg7 arg8 harg8 arg9 harg9 arg10 harg10 arg11 harg11 arg12 harg12 k0_h3 g X Y k) rfl
    (fun k => pb_k0_t6_succ (F := F) Variants.none c none i arg1 harg1 arg2 harg2 arg3 harg3 arg4 harg4 arg5 harg5 arg6 harg6 arg7 harg7 arg8 harg8 arg9 harg9 arg10 harg10 arg11 harg11 arg12 harg12 k0_h3 g X Y k) _ ?_ _ le_rfl
  intro k p hp x
  have hk : k.val < 3 := Nat.lt_of_lt_of_le k.isLt k0_t6_abs.2.1
  have e : tripL_k0_t6 (F := F) Variants.none c none i arg1 harg1 arg2 harg2 arg3 harg3 arg4 harg4 arg5 harg5 arg6 harg6 arg7 harg7 arg8 harg8 arg9 harg9 arg10 harg10 arg11 harg11 arg12 harg12 k0_h3 g X Y k
      = [⟨Rect.unit (k0_off12 k) S512x2x128.size (k0_off12_inb i k k0_h3), k0_pay7 g
          (View.readAt (Elt F) arg11.view (Rect.unit (s := S1536x2048) (k0_off11 k) S512x2048.size (k0_off11_inb i k k0_h3)).toLoadRect X)
          (View.readAt (Elt F) arg12.view (Rect.unit (s := S2048x1024) ![0, 256] S2048x256.size inb_S2048x1024_S2048x256_0_256).toLoadRect Y)⟩] := by
    sl_kernel_rfl
  rw [e] at hp
  obtain rfl := List.mem_singleton.mp hp
  refine Eq.trans ?_ (kBlock_at g h w k.val 1 hk (by decide) x _ ?_ ?_ ?_)
  · change k0_pay7 g _ _ x = _
    rw [View.readAt_eq_ld, View.readAt_eq_ld, hX, hY, ld_hRows h _ _ k.val hk (k0_off11_eq k), ld_wCols w _ _ 1 (by decide) rfl]
    all_goals rfl
  · exact emb_unit_of _ _ _ (k0_off12_inb i k k0_h3) x 0 (k0_off12_eq k)
  · exact emb_unit_of _ _ _ (k0_off12_inb i k k0_h3) x 1 (k0_off12_eq k)
  · exact (emb_unit_of _ _ _ (k0_off12_inb i k k0_h3) x 2 (k0_off12_eq k)).trans (Nat.zero_add _)

/-- Every piece loop 7 stores is part of the value heads of the activations and weights held. -/
theorem pieces_t7 (k0_h3 : k0_cond3 i = 1#1) (X : BufTy.Contents (Elt F) arg11.view.ty) (Y : BufTy.Contents (Elt F) arg12.view.ty)
    (h : Vec F S1536x2048 .bf16) (w : Vec F S2048x1024 .bf16) (hX : arg11.view.read (Elt F) X = h) (hY : arg12.view.read (Elt F) Y = w) :
    ∀ p ∈ pb_k0_t7 (F := F) Variants.none c none i arg1 harg1 arg2 harg2 arg3 harg3 arg4 harg4 arg5 harg5 arg6 harg6 arg7 harg7 arg8 harg8 arg9 harg9 arg10 harg10 arg11 harg11 arg12 harg12 k0_h3 X Y k0_t7_loop.trips,
      ∀ x, p.2 x = vBlock h w (p.1.emb x) := by
  refine mem_pieces k0_t7_loop.trips _ (fun k => tripL_k0_t7 (F := F) Variants.none c none i arg1 harg1 arg2 harg2 arg3 harg3 arg4 harg4 arg5 harg5 arg6 harg6 arg7 harg7 arg8 harg8 arg9 harg9 arg10 harg10 arg11 harg11 arg12 harg12 k0_h3 X Y k) rfl
    (fun k => pb_k0_t7_succ (F := F) Variants.none c none i arg1 harg1 arg2 harg2 arg3 harg3 arg4 harg4 arg5 harg5 arg6 harg6 arg7 harg7 arg8 harg8 arg9 harg9 arg10 harg10 arg11 harg11 arg12 harg12 k0_h3 X Y k) _ ?_ _ le_rfl
  intro k p hp x
  have hk : k.val < 3 := Nat.lt_of_lt_of_le k.isLt k0_t7_abs.2.1
  have e : tripL_k0_t7 (F := F) Variants.none c none i arg1 harg1 arg2 harg2 arg3 harg3 arg4 harg4 arg5 harg5 arg6 harg6 arg7 harg7 arg8 harg8 arg9 harg9 arg10 harg10 arg11 harg11 arg12 harg12 k0_h3 X Y k
      = [⟨Rect.unit (k0_off14 k) S512x2x128.size (k0_off14_inb i k k0_h3), k0_pay8
          (View.readAt (Elt F) arg11.view (Rect.unit (s := S1536x2048) (k0_off13 k) S512x2048.size (k0_off13_inb i k k0_h3)).toLoadRect X)
          (View.readAt (Elt F) arg12.view (Rect.unit (s := S2048x1024) ![0, 512] S2048x256.size inb_S2048x1024_S2048x256_0_512).toLoadRect Y)⟩] := by
    sl_kernel_rfl
  rw [e] at hp
  obtain rfl := List.mem_singleton.mp hp
  refine Eq.trans ?_ (vBlock_at h w k.val 0 hk (by decide) x _ ?_ ?_ ?_)
  · change k0_pay8 _ _ x = _
    rw [View.readAt_eq_ld, View.readAt_eq_ld, hX, hY, ld_hRows h _ _ k.val hk (k0_off13_eq k), ld_wCols w _ _ 2 (by decide) rfl]
    all_goals rfl
  · exact emb_unit_of _ _ _ (k0_off14_inb i k k0_h3) x 0 (k0_off14_eq k)
  · exact emb_unit_of _ _ _ (k0_off14_inb i k k0_h3) x 1 (k0_off14_eq k)
  · exact (emb_unit_of _ _ _ (k0_off14_inb i k k0_h3) x 2 (k0_off14_eq k)).trans (Nat.zero_add _)

/-- Every piece loop 8 stores is part of the value heads of the activations and weights held. -/
theorem pieces_t8 (k0_h3 : k0_cond3 i = 1#1) (X : BufTy.Contents (Elt F) arg11.view.ty) (Y : BufTy.Contents (Elt F) arg12.view.ty)
    (h : Vec F S1536x2048 .bf16) (w : Vec F S2048x1024 .bf16) (hX : arg11.view.read (Elt F) X = h) (hY : arg12.view.read (Elt F) Y = w) :
    ∀ p ∈ pb_k0_t8 (F := F) Variants.none c none i arg1 harg1 arg2 harg2 arg3 harg3 arg4 harg4 arg5 harg5 arg6 harg6 arg7 harg7 arg8 harg8 arg9 harg9 arg10 harg10 arg11 harg11 arg12 harg12 k0_h3 X Y k0_t8_loop.trips,
      ∀ x, p.2 x = vBlock h w (p.1.emb x) := by
  refine mem_pieces k0_t8_loop.trips _ (fun k => tripL_k0_t8 (F := F) Variants.none c none i arg1 harg1 arg2 harg2 arg3 harg3 arg4 harg4 arg5 harg5 arg6 harg6 arg7 harg7 arg8 harg8 arg9 harg9 arg10 harg10 arg11 harg11 arg12 harg12 k0_h3 X Y k) rfl
    (fun k => pb_k0_t8_succ (F := F) Variants.none c none i arg1 harg1 arg2 harg2 arg3 harg3 arg4 harg4 arg5 harg5 arg6 harg6 arg7 harg7 arg8 harg8 arg9 harg9 arg10 harg10 arg11 harg11 arg12 harg12 k0_h3 X Y k) _ ?_ _ le_rfl
  intro k p hp x
  have hk : k.val < 3 := Nat.lt_of_lt_of_le k.isLt k0_t8_abs.2.1
  have e : tripL_k0_t8 (F := F) Variants.none c none i arg1 harg1 arg2 harg2 arg3 harg3 arg4 harg4 arg5 harg5 arg6 harg6 arg7 harg7 arg8 harg8 arg9 harg9 arg10 harg10 arg11 harg11 arg12 harg12 k0_h3 X Y k
      = [⟨Rect.unit (k0_off16 k) S512x2x128.size (k0_off16_inb i k k0_h3), k0_pay9
          (View.readAt (Elt F) arg11.view (Rect.unit (s := S1536x2048) (k0_off15 k) S512x2048.size (k0_off15_inb i k k0_h3)).toLoadRect X)
          (View.readAt (Elt F) arg12.view (Rect.unit (s := S2048x1024) ![0, 768] S2048x256.size inb_S2048x1024_S2048x256_0_768).toLoadRect Y)⟩] := by
    sl_kernel_rfl
  rw [e] at hp
  obtain rfl := List.mem_singleton.mp hp
  refine Eq.trans ?_ (vBlock_at h w k.val 1 hk (by decide) x _ ?_ ?_ ?_)
  · change k0_pay9 _ _ x = _
    rw [View.readAt_eq_ld, View.readAt_eq_ld, hX, hY, ld_hRows h _ _ k.val hk (k0_off15_eq k), ld_wCols w _ _ 3 (by decide) rfl]
    all_goals rfl
  · exact emb_unit_of _ _ _ (k0_off16_inb i k k0_h3) x 0 (k0_off16_eq k)
  · exact emb_unit_of _ _ _ (k0_off16_inb i k k0_h3) x 1 (k0_off16_eq k)
  · exact (emb_unit_of _ _ _ (k0_off16_inb i k k0_h3) x 2 (k0_off16_eq k)).trans (Nat.zero_add _)

/-- The query heads the loops leave, whatever the buffer held before. -/
theorem qRead (k0_h2 : k0_cond2 i = 1#1) (g' g : Vec F S1x128 .f32) (hg : g' = g) (X : BufTy.Contents (Elt F) arg11.view.ty) (Y : BufTy.Contents (Elt F) arg12.view.ty)
    (h : Vec F S1536x2048 .bf16) (w : Vec F S2048x1024 .bf16) (hX : arg11.view.read (Elt F) X = h) (hY : arg12.view.read (Elt F) Y = w)
    (f : BufTy.Contents (Elt F) arg8.view.ty) :
    arg8.view.read (Elt F) (arg8.view.writes (Elt F) f (pb_k0_t4 (F := F) Variants.none c none i arg1 harg1 arg2 harg2 arg3 harg3 arg4 harg4 arg5 harg5 arg6 harg6 arg7 harg7 arg8 harg8 arg9 harg9 arg10 harg10 arg11 harg11 arg12 harg12 k0_h2 g' X Y k0_t4_loop.trips ++ (pb_k0_t3 (F := F) Variants.none c none i arg1 harg1 arg2 harg2 arg3 harg3 arg4 harg4 arg5 harg5 arg6 harg6 arg7 harg7 arg8 harg8 arg9 harg9 arg10 harg10 arg11 harg11 arg12 harg12 k0_h2 g' X Y k0_t3_loop.trips ++ (pb_k0_t2 (F := F) Variants.none c none i arg1 harg1 arg2 harg2 arg3 harg3 arg4 harg4 arg5 harg5 arg6 harg6 arg7 harg7 arg8 harg8 arg9 harg9 arg10 harg10 arg11 harg11 arg12 harg12 k0_h2 g' X Y k0_t2_loop.trips ++ (pb_k0_t1 (F := F) Variants.none c none i arg1 harg1 arg2 harg2 arg3 harg3 arg4 harg4 arg5 harg5 arg6 harg6 arg7 harg7 arg8 harg8 arg9 harg9 arg10 harg10 arg11 harg11 arg12 harg12 k0_h2 g' X Y k0_t1_loop.trips))))) = qBlock g h w := by
  subst hg
  funext y
  refine View.read_writes_apply_of_pieces arg8.view _ (qBlock g' h w) _ ?_ y (View.cover_of_tiledL (s := S1536x8x128) _ S512x2x128.size (by sl_kernel_rfl) y)
  intro p hp
  rcases List.mem_append.mp hp with hp | hp
  · exact pieces_t4 c i arg1 harg1 arg2 harg2 arg3 harg3 arg4 harg4 arg5 harg5 arg6 harg6 arg7 harg7 arg8 harg8 arg9 harg9 arg10 harg10 arg11 harg11 arg12 harg12 k0_h2 g' X Y h w hX hY p hp
  rcases List.mem_append.mp hp with hp | hp
  · exact pieces_t3 c i arg1 harg1 arg2 harg2 arg3 harg3 arg4 harg4 arg5 harg5 arg6 harg6 arg7 harg7 arg8 harg8 arg9 harg9 arg10 harg10 arg11 harg11 arg12 harg12 k0_h2 g' X Y h w hX hY p hp
  rcases List.mem_append.mp hp with hp | hp
  · exact pieces_t2 c i arg1 harg1 arg2 harg2 arg3 harg3 arg4 harg4 arg5 harg5 arg6 harg6 arg7 harg7 arg8 harg8 arg9 harg9 arg10 harg10 arg11 harg11 arg12 harg12 k0_h2 g' X Y h w hX hY p hp
  exact pieces_t1 c i arg1 harg1 arg2 harg2 arg3 harg3 arg4 harg4 arg5 harg5 arg6 harg6 arg7 harg7 arg8 harg8 arg9 harg9 arg10 harg10 arg11 harg11 arg12 harg12 k0_h2 g' X Y h w hX hY p hp

/-- The key heads the loops leave, whatever the buffer held before. -/
theorem kRead (k0_h3 : k0_cond3 i = 1#1) (g' g : Vec F S1x128 .f32) (hg : g' = g) (X : BufTy.Contents (Elt F) arg11.view.ty) (Y : BufTy.Contents (Elt F) arg12.view.ty)
    (h : Vec F S1536x2048 .bf16) (w : Vec F S2048x1024 .bf16) (hX : arg11.view.read (Elt F) X = h) (hY : arg12.view.read (Elt F) Y = w)
    (f : BufTy.Contents (Elt F) arg9.view.ty) :
    arg9.view.read (Elt F) (arg9.view.writes (Elt F) f (pb_k0_t6 (F := F) Variants.none c none i arg1 harg1 arg2 harg2 arg3 harg3 arg4 harg4 arg5 harg5 arg6 harg6 arg7 harg7 arg8 harg8 arg9 harg9 arg10 harg10 arg11 harg11 arg12 harg12 k0_h3 g' X Y k0_t6_loop.trips ++ (pb_k0_t5 (F := F) Variants.none c none i arg1 harg1 arg2 harg2 arg3 harg3 arg4 harg4 arg5 harg5 arg6 harg6 arg7 harg7 arg8 harg8 arg9 harg9 arg10 harg10 arg11 harg11 arg12 harg12 k0_h3 g' X Y k0_t5_loop.trips))) = kBlock g h w := by
  subst hg
  funext y
  refine View.read_writes_apply_of_pieces arg9.view _ (kBlock g' h w) _ ?_ y (View.cover_of_tiledL (s := S1536x4x128) _ S512x2x128.size (by sl_kernel_rfl) y)
  intro p hp
  rcases List.mem_append.mp hp with hp | hp
  · exact pieces_t6 c i arg1 harg1 arg2 harg2 arg3 harg3 arg4 harg4 arg5 harg5 arg6 harg6 arg7 harg7 arg8 harg8 arg9 harg9 arg10 harg10 arg11 harg11 arg12 harg12 k0_h3 g' X Y h w hX hY p hp
  exact pieces_t5 c i arg1 harg1 arg2 harg2 arg3 harg3 arg4 harg4 arg5 harg5 arg6 harg6 arg7 harg7 arg8 harg8 arg9 harg9 arg10 harg10 arg11 harg11 arg12 harg12 k0_h3 g' X Y h w hX hY p hp

/-- The value heads the loops leave, whatever the buffer held before. -/
theorem vRead (k0_h3 : k0_cond3 i = 1#1) (X : BufTy.Contents (Elt F) arg11.view.ty) (Y : BufTy.Contents (Elt F) arg12.view.ty)
    (h : Vec F S1536x2048 .bf16) (w : Vec F S2048x1024 .bf16) (hX : arg11.view.read (Elt F) X = h) (hY : arg12.view.read (Elt F) Y = w)
    (f : BufTy.Contents (Elt F) arg10.view.ty) :
    arg10.view.read (Elt F) (arg10.view.writes (Elt F) f (pb_k0_t8 (F := F) Variants.none c none i arg1 harg1 arg2 harg2 arg3 harg3 arg4 harg4 arg5 harg5 arg6 harg6 arg7 harg7 arg8 harg8 arg9 harg9 arg10 harg10 arg11 harg11 arg12 harg12 k0_h3 X Y k0_t8_loop.trips ++ (pb_k0_t7 (F := F) Variants.none c none i arg1 harg1 arg2 harg2 arg3 harg3 arg4 harg4 arg5 harg5 arg6 harg6 arg7 harg7 arg8 harg8 arg9 harg9 arg10 harg10 arg11 harg11 arg12 harg12 k0_h3 X Y k0_t7_loop.trips))) = vBlock h w := by
  funext y
  refine View.read_writes_apply_of_pieces arg10.view _ (vBlock h w) _ ?_ y (View.cover_of_tiledL (s := S1536x4x128) _ S512x2x128.size (by sl_kernel_rfl) y)
  intro p hp
  rcases List.mem_append.mp hp with hp | hp
  · exact pieces_t8 c i arg1 harg1 arg2 harg2 arg3 harg3 arg4 harg4 arg5 harg5 arg6 harg6 arg7 harg7 arg8 harg8 arg9 harg9 arg10 harg10 arg11 harg11 arg12 harg12 k0_h3 X Y h w hX hY p hp
  exact pieces_t7 c i arg1 harg1 arg2 harg2 arg3 harg3 arg4 harg4 arg5 harg5 arg6 harg6 arg7 harg7 arg8 harg8 arg9 harg9 arg10 harg10 arg11 harg11 arg12 harg12 k0_h3 X Y h w hX hY p hp

end Loops

end Cert.KernelIdeal.Hand
-- ==== Proof.RunA.lean ====
/- The run of the kernel's body at the grid's first point, with what it leaves in every buffer stated by the functions of
   `Blocks.lean`. -/
module

public import proofs.«01_k».proof.Proof.Blocks

@[expose] public section

set_option maxRecDepth 16384

noncomputable section

namespace Cert.KernelIdeal.Hand
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1216000 in
/-- At the first grid point the body, run on the input blocks and buffers of any contents, normalises the activations
    into its first scratch buffer and leaves the point's query heads; the key and value buffers stay as they were. -/
theorem runA (c : Dev nD) (i : grid0.Coords) (arg1 : Memref sig .tc .vmem S1536x2048 .bf16) (harg1 : arg1.IsWhole) (arg2 : Memref sig .tc .vmem S1x2048 .f32) (harg2 : arg2.IsWhole) (arg3 : Memref sig .tc .vmem S1024x1024 .i8) (harg3 : arg3.IsWhole) (arg4 : Memref sig .tc .vmem S16x1024 .bf16) (harg4 : arg4.IsWhole) (arg5 : Memref sig .tc .vmem S16x1024 .i8) (harg5 : arg5.IsWhole) (arg6 : Memref sig .tc .vmem S1x128 .f32) (harg6 : arg6.IsWhole) (arg7 : Memref sig .tc .vmem S1x128 .f32) (harg7 : arg7.IsWhole) (arg8 : Memref sig .tc .vmem S1536x8x128 .bf16) (harg8 : arg8.IsWhole) (arg9 : Memref sig .tc .vmem S1536x4x128 .bf16) (harg9 : arg9.IsWhole) (arg10 : Memref sig .tc .vmem S1536x4x128 .bf16) (harg10 : arg10.IsWhole) (arg11 : Memref sig .tc .vmem S1536x2048 .bf16) (harg11 : arg11.IsWhole) (arg12 : Memref sig .tc .vmem S2048x1024 .bf16) (harg12 : arg12.IsWhole) (hc0 : cond0_0 i) (hc1 : cond0_1 i) (hc2 : ¬cond0_2 i)
    (x0 : Vec F S1536x2048 .bf16) (x1 : Vec F S1x2048 .f32) (x2 : Vec F S1024x1024 .i8) (x3 : Vec F S16x1024 .bf16) (x4 : Vec F S16x1024 .i8) (x5 : Vec F S1x128 .f32) (x6 : Vec F S1x128 .f32) :
      ∀ (xi8 : Vec F S1536x4x128 .bf16) (xi9 : Vec F S1536x4x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xi9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (qBlock x5 (hBlock x0 x1) (wBlock x2 x3 x4)) ∗ owns (c : Thread nD τ) arg9 fullShare xi8 ∗ owns (c : Thread nD τ) arg10 fullShare xi9 ∗ owns (c : Thread nD τ) arg11 fullShare (hBlock x0 x1) ∗ (∃ d, owns (c : Thread nD τ) arg12 fullShare d)) -∗ K ⟨⟩))
          ⊢ wp frame (wpE (defs₀ (F := F)) Variants.none c none) E (cc0_w4_qkv i arg1 harg1 arg2 harg2 arg3 harg3 arg4 harg4 arg5 harg5 arg6 harg6 arg7 harg7 arg8 harg8 arg9 harg9 arg10 harg10 arg11 harg11 arg12 harg12) K := by
  intro xi8 xi9 E K
  simp only [cc0_w4_qkv_eq_skeleton]; unfold cc0_w4_qkv_skel
  simp only [k0_part6_eq_skeleton, k0_part1_eq_skeleton, k0_part2_eq_skeleton, k0_part3_eq_skeleton, k0_part4_eq_skeleton, k0_part5_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    exact qRead _ _ arg1 harg1 arg2 harg2 arg3 harg3 arg4 harg4 arg5 harg5 arg6 harg6 arg7 harg7 arg8 harg8 arg9 harg9 arg10 harg10 arg11 harg11 arg12 harg12 _ _ _ ((View.readAt_eq_ld _ _ _).trans ((ld_row _ _ _ rfl).trans (harg6.read_unread x5))) _ _ _ _
      (hRead _ _ _ _ _ _ _ _ (harg1.read_unread _) (harg2.read_unread _) _ (by sl_kernel_rfl))
      (wRead _ _ _ _ _ _ _ _ _ _ _ (harg3.read_unread _) (harg4.read_unread _) (harg5.read_unread _) _ (by sl_kernel_rfl)) _
  isplitl [H8]
  · iexists _; isplitr; · ipureintro; exact harg9.read_unread _
    iexact H8
  isplitl [H9]
  · iexists _; isplitr; · ipureintro; exact harg10.read_unread _
    iexact H9
  isplitl [HS0]
  · iexists _; isplitr; swap; · iexact HS0
    ipureintro; exact hRead _ _ _ _ _ _ _ _ (harg1.read_unread _) (harg2.read_unread _) _ (by sl_kernel_rfl)
  iexists _, _; isplitr; swap; · iexact HS1
  ipureintro; rfl

end Cert.KernelIdeal.Hand

end
-- ==== Proof.RunB.lean ====
/- The run of the kernel's body at the grid's middle points, with what it leaves in every buffer stated by the functions of
   `Blocks.lean`. -/
module

public import proofs.«01_k».proof.Proof.RunA

@[expose] public section

set_option maxRecDepth 16384

noncomputable section

namespace Cert.KernelIdeal.Hand
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the middle grid points the body, run on the input blocks and the activations the first point left, leaves the
    point's query heads; the activations and the key and value buffers stay as they were. -/
theorem runB (c : Dev nD) (i : grid0.Coords) (arg1 : Memref sig .tc .vmem S1536x2048 .bf16) (harg1 : arg1.IsWhole) (arg2 : Memref sig .tc .vmem S1x2048 .f32) (harg2 : arg2.IsWhole) (arg3 : Memref sig .tc .vmem S1024x1024 .i8) (harg3 : arg3.IsWhole) (arg4 : Memref sig .tc .vmem S16x1024 .bf16) (harg4 : arg4.IsWhole) (arg5 : Memref sig .tc .vmem S16x1024 .i8) (harg5 : arg5.IsWhole) (arg6 : Memref sig .tc .vmem S1x128 .f32) (harg6 : arg6.IsWhole) (arg7 : Memref sig .tc .vmem S1x128 .f32) (harg7 : arg7.IsWhole) (arg8 : Memref sig .tc .vmem S1536x8x128 .bf16) (harg8 : arg8.IsWhole) (arg9 : Memref sig .tc .vmem S1536x4x128 .bf16) (harg9 : arg9.IsWhole) (arg10 : Memref sig .tc .vmem S1536x4x128 .bf16) (harg10 : arg10.IsWhole) (arg11 : Memref sig .tc .vmem S1536x2048 .bf16) (harg11 : arg11.IsWhole) (arg12 : Memref sig .tc .vmem S2048x1024 .bf16) (harg12 : arg12.IsWhole) (hc0 : ¬cond0_0 i) (hc1 : cond0_1 i) (hc2 : ¬cond0_2 i)
    (x0 : Vec F S1536x2048 .bf16) (x1 : Vec F S1x2048 .f32) (x2 : Vec F S1024x1024 .i8) (x3 : Vec F S16x1024 .bf16) (x4 : Vec F S16x1024 .i8) (x5 : Vec F S1x128 .f32) (x6 : Vec F S1x128 .f32) (xs0 : Vec F S1536x2048 .bf16) :
      ∀ (xi8 : Vec F S1536x4x128 .bf16) (xi9 : Vec F S1536x4x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xi8 ∗ owns (c : Thread nD τ) arg10 fullShare xi9 ∗ owns (c : Thread nD τ) arg11 fullShare xs0 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (qBlock x5 xs0 (wBlock x2 x3 x4)) ∗ owns (c : Thread nD τ) arg9 fullShare xi8 ∗ owns (c : Thread nD τ) arg10 fullShare xi9 ∗ owns (c : Thread nD τ) arg11 fullShare xs0 ∗ (∃ d, owns (c : Thread nD τ) arg12 fullShare d)) -∗ K ⟨⟩))
          ⊢ wp frame (wpE (defs₀ (F := F)) Variants.none c none) E (cc0_w4_qkv i arg1 harg1 arg2 harg2 arg3 harg3 arg4 harg4 arg5 harg5 arg6 harg6 arg7 harg7 arg8 harg8 arg9 harg9 arg10 harg10 arg11 harg11 arg12 harg12) K := by
  intro xi8 xi9 E K
  simp only [cc0_w4_qkv_eq_skeleton]; unfold cc0_w4_qkv_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    exact qRead _ _ arg1 harg1 arg2 harg2 arg3 harg3 arg4 harg4 arg5 harg5 arg6 harg6 arg7 harg7 arg8 harg8 arg9 harg9 arg10 harg10 arg11 harg11 arg12 harg12 _ _ _ ((View.readAt_eq_ld _ _ _).trans ((ld_row _ _ _ rfl).trans (harg6.read_unread x5))) _ _ _ _
      (harg11.read_unread _)
      (wRead _ _ _ _ _ _ _ _ _ _ _ (harg3.read_unread _) (harg4.read_unread _) (harg5.read_unread _) _ (by sl_kernel_rfl)) _
  isplitl [H8]
  · iexists _; isplitr; · ipureintro; exact harg9.read_unread _
    iexact H8
  isplitl [H9]
  · iexists _; isplitr; · ipureintro; exact harg10.read_unread _
    iexact H9
  isplitl [HS0]
  · iexists _; isplitr; · ipureintro; exact harg11.read_unread _
    iexact HS0
  iexists _, _; isplitr; swap; · iexact HS1
  ipureintro; rfl

end Cert.KernelIdeal.Hand

end
-- ==== Proof.RunC.lean ====
/- The run of the kernel's body at the grid's last point, with what it leaves in every buffer stated by the functions of
   `Blocks.lean`. -/
module

public import proofs.«01_k».proof.Proof.RunB

@[expose] public section

set_option maxRecDepth 16384

noncomputable section

namespace Cert.KernelIdeal.Hand
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last grid point the body, run on the input blocks and the activations the first point left, leaves the key
    heads and the value heads; the activations and the query buffer stay as they were. -/
theorem runC (c : Dev nD) (i : grid0.Coords) (arg1 : Memref sig .tc .vmem S1536x2048 .bf16) (harg1 : arg1.IsWhole) (arg2 : Memref sig .tc .vmem S1x2048 .f32) (harg2 : arg2.IsWhole) (arg3 : Memref sig .tc .vmem S1024x1024 .i8) (harg3 : arg3.IsWhole) (arg4 : Memref sig .tc .vmem S16x1024 .bf16) (harg4 : arg4.IsWhole) (arg5 : Memref sig .tc .vmem S16x1024 .i8) (harg5 : arg5.IsWhole) (arg6 : Memref sig .tc .vmem S1x128 .f32) (harg6 : arg6.IsWhole) (arg7 : Memref sig .tc .vmem S1x128 .f32) (harg7 : arg7.IsWhole) (arg8 : Memref sig .tc .vmem S1536x8x128 .bf16) (harg8 : arg8.IsWhole) (arg9 : Memref sig .tc .vmem S1536x4x128 .bf16) (harg9 : arg9.IsWhole) (arg10 : Memref sig .tc .vmem S1536x4x128 .bf16) (harg10 : arg10.IsWhole) (arg11 : Memref sig .tc .vmem S1536x2048 .bf16) (harg11 : arg11.IsWhole) (arg12 : Memref sig .tc .vmem S2048x1024 .bf16) (harg12 : arg12.IsWhole) (hc0 : ¬cond0_0 i) (hc1 : ¬cond0_1 i) (hc2 : cond0_2 i)
    (x0 : Vec F S1536x2048 .bf16) (x1 : Vec F S1x2048 .f32) (x2 : Vec F S1024x1024 .i8) (x3 : Vec F S16x1024 .bf16) (x4 : Vec F S16x1024 .i8) (x5 : Vec F S1x128 .f32) (x6 : Vec F S1x128 .f32) (xs0 : Vec F S1536x2048 .bf16) :
      ∀ (xi7 : Vec F S1536x8x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare (kBlock x6 xs0 (wBlock x2 x3 x4)) ∗ owns (c : Thread nD τ) arg10 fullShare (vBlock xs0 (wBlock x2 x3 x4)) ∗ owns (c : Thread nD τ) arg11 fullShare xs0 ∗ (∃ d, owns (c : Thread nD τ) arg12 fullShare d)) -∗ K ⟨⟩))
          ⊢ wp frame (wpE (defs₀ (F := F)) Variants.none c none) E (cc0_w4_qkv i arg1 harg1 arg2 harg2 arg3 harg3 arg4 harg4 arg5 harg5 arg6 harg6 arg7 harg7 arg8 harg8 arg9 harg9 arg10 harg10 arg11 harg11 arg12 harg12) K := by
  intro xi7 E K
  simp only [cc0_w4_qkv_eq_skeleton]; unfold cc0_w4_qkv_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hfs0
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    exact kRead _ _ arg1 harg1 arg2 harg2 arg3 harg3 arg4 harg4 arg5 harg5 arg6 harg6 arg7 harg7 arg8 harg8 arg9 harg9 arg10 harg10 arg11 harg11 arg12 harg12 _ _ _ ((View.readAt_eq_ld _ _ _).trans ((ld_row _ _ _ rfl).trans (harg7.read_unread x6))) _ _ _ _
      (harg11.read_unread _)
      (wRead _ _ _ _ _ _ _ _ _ _ _ (harg3.read_unread _) (harg4.read_unread _) (harg5.read_unread _) _ (by sl_kernel_rfl)) _
  isplitl [H9]
  · iexists _; isplitr; swap; · iexact H9
    ipureintro
    exact vRead _ _ arg1 harg1 arg2 harg2 arg3 harg3 arg4 harg4 arg5 harg5 arg6 harg6 arg7 harg7 arg8 harg8 arg9 harg9 arg10 harg10 arg11 harg11 arg12 harg12 _ _ _ _ _
      (harg11.read_unread _)
      (wRead _ _ _ _ _ _ _ _ _ _ _ (harg3.read_unread _) (harg4.read_unread _) (harg5.read_unread _) _ (by sl_kernel_rfl)) _
  isplitl [HS0]
  · iexists _; isplitr; · ipureintro; exact harg11.read_unread _
    iexact HS0
  iexists _, _; isplitr; swap; · iexact HS1
  ipureintro; rfl

end Cert.KernelIdeal.Hand

end
-- ==== Proof.Region.lean ====
/- The kernel's pipeline with every output's contents named: the body at every grid point, the launch, and the run with
   each output array after it. The query heads of points 0 to 3 are stored block by block; the last point stores no
   query head, and its write-back of the query window moves what point 3 left in the buffer once more. -/
module

public import proofs.«01_k».proof.Proof.RunC
public import Idealize.ShloMosaic.Lib.Pipeline.TableIdle
public import Idealize.ShloMosaic.Lib.Pipeline.Value

@[expose] public section

set_option maxRecDepth 16384

noncomputable section

namespace Cert.KernelIdeal.Hand
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The grid's first point. -/
def pt0 : Fin cfg0.N := ⟨0, by rw [show cfg0.N = 5 from N_0]; decide⟩

/-- The last point that stores query heads, at or before `t`. -/
def qPt (t : Fin cfg0.N) : Fin cfg0.N := ⟨min t.val 3, Nat.lt_of_le_of_lt (Nat.min_le_left _ _) t.isLt⟩

/-- The normalised activations, from the first point's blocks. -/
def hAt (c : Dev nD) : Vec F S1536x2048 .bf16 := hBlock (iblk m c 0 pt0) (iblk m c 1 pt0)

/-- The dequantised weights of point `t`. -/
def wAt (c : Dev nD) (t : Fin cfg0.N) : Vec F S2048x1024 .bf16 := wBlock (iblk m c 2 t) (iblk m c 3 t) (iblk m c 4 t)

/-- The query heads of point `t`. -/
def qAt (c : Dev nD) (t : Fin cfg0.N) : Vec F S1536x8x128 .bf16 := qBlock (iblk m c 5 t) (hAt m c) (wAt m c t)

/-- The key heads of point `t`. -/
def kAt (c : Dev nD) (t : Fin cfg0.N) : Vec F S1536x4x128 .bf16 := kBlock (iblk m c 6 t) (hAt m c) (wAt m c t)

/-- The value heads of point `t`. -/
def vAt (c : Dev nD) (t : Fin cfg0.N) : Vec F S1536x4x128 .bf16 := vBlock (hAt m c) (wAt m c t)

/-- The invariant before position `n`: before the first point every scratch buffer at anything; afterwards the
    activations' buffer at the normalised activations. -/
def PhiS (c : Dev nD) : (n : ℕ) → n ≤ cfg0.N → sProp 𝕄
  | 0, _ => Pipeline.ΦA spec0 c
  | n + 1, hn => iprop(iprop(owns (c : Thread nD τ) scM0_0 fullShare (hAt m c) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (hAt m c) ∗ (∃ d, owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (hAt m c) ∗ (∃ d, owns (c : Thread nD τ) scM0_1 fullShare d)) ∗ (∃ r, prngReg c r)) := by
  cases n with
  | zero => exact absurd rfl hz
  | succ n => rfl

/-- The proof data of the pipeline: the arrays as the region finds them; after the body at point `t` each input's
    buffer at its block, the query window's at the heads of the last point that stored some, the key and value
    windows' at the point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => qAt m c (qPt t)
    | ⟨8, _⟩ => kAt m c t
    | ⟨9, _⟩ => vAt m c t
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = qAt m c (qPt t) := by dsimp only [dats]
theorem after0_8 (c : Dev nD) (t : Fin cfg0.N) : (dats m 0 c).after 8 t = kAt m c t := by dsimp only [dats]
theorem after0_9 (c : Dev nD) (t : Fin cfg0.N) : (dats m 0 c).after 9 t = vAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## Which windows the body stores into, point by point -/

/-- The query window is stored into at every point but the last. -/
theorem live7 : ∀ t : Fin cfg0.N, t.val < 4 → cfg0.idle 7 (grid0.coords t) = false := by decide +kernel
/-- The last point stores nothing into the query window, -/
theorem idle7 : ∀ t : Fin cfg0.N, ¬t.val < 4 → cfg0.idle 7 (grid0.coords t) = true := by decide +kernel
/-- but writes its block back. -/
theorem flush7 : ∀ t : Fin cfg0.N, ¬t.val < 4 → (cfg0.win 7).flush t = true := by decide +kernel
/-- The key window is stored into at the last point only, -/
theorem idle8 : ∀ t : Fin cfg0.N, t.val < 4 → cfg0.idle 8 (grid0.coords t) = true := by decide +kernel
/-- and written back there only. -/
theorem noFlush8 : ∀ t : Fin cfg0.N, t.val < 4 → (cfg0.win 8).flush t = false := by decide +kernel
theorem live8 : ∀ t : Fin cfg0.N, ¬t.val < 4 → cfg0.idle 8 (grid0.coords t) = false := by decide +kernel
/-- The value window is stored into at the last point only, -/
theorem idle9 : ∀ t : Fin cfg0.N, t.val < 4 → cfg0.idle 9 (grid0.coords t) = true := by decide +kernel
/-- and written back there only. -/
theorem noFlush9 : ∀ t : Fin cfg0.N, t.val < 4 → (cfg0.win 9).flush t = false := by decide +kernel
theorem live9 : ∀ t : Fin cfg0.N, ¬t.val < 4 → cfg0.idle 9 (grid0.coords t) = false := by decide +kernel

/-- A point past the first whose query buffer is not fresh is the last, or is not idle. -/
theorem carry7 : ∀ t : Fin cfg0.N, cfg0.idle 7 (grid0.coords t) = true → t.val = 4 := by decide +kernel
theorem fresh7 : cfg0.fresh 7 4 = false := by decide +kernel

/-- The last point finds in the query window's buffer what point 3 left there. -/
theorem before7 (c : Dev nD) (t : Fin cfg0.N) (ht : t.val = 4) (d) : (dats m 0 c).before 7 t d = qAt m c (qPt t) := by
  have h := (dats m 0 c).before_out_traj 7 rfl (fun _ _ => rfl) (fun t ht0 hi _ => by
    rw [after0_7, after0_7]
    refine congrArg (qAt m c) (Fin.ext ?_)
    have := carry7 t hi
    change min t.val 3 = min (t.val - 1) 3
    omega) t.val t rfl d
  rw [h, (by rw [ht]; exact fresh7 : cfg0.fresh 7 t.val = false), if_neg Bool.false_ne_true, after0_7]
  refine congrArg (qAt m c) (Fin.ext ?_)
  change min (t.val - 1) 3 = min t.val 3
  omega

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point: the first, a middle or the last one, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  have hN : t.val < 5 := lt_of_lt_of_eq t.isLt (show cfg0.N = 5 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [PhiS_castSucc m c t]
  by_cases h1 : t.val < 4
  · have h2 : ¬t.val % 5 = 4 := by omega
    rw [show (dats m 0 c).leavesExact 7 t = owns (c : Thread nD τ) (ms0_7 t) fullShare ((dats m 0 c).after 7 t) from by
      unfold Dat.leavesExact; rw [live7 t h1], after0_7, show qPt t = t from Fin.ext (Nat.min_eq_left (by omega))]
    rw [Dat.leavesExact_idle (dats m 0 c) 8 t (idle8 t h1) (noFlush8 t h1)]
    rw [Dat.leavesExact_idle (dats m 0 c) 9 t (idle9 t h1) (noFlush9 t h1)]
    by_cases h0 : t.val % 5 = 0
    · obtain rfl : t = pt0 := Fin.ext (by change t.val = 0; omega)
      rw [PhiS_zero m c _ _ (show pt0.val = 0 from rfl), PhiA0_eq]
      unfold qAt wAt hAt
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runA c (grid0.coords pt0) _ _ _ _ _ _ _ _ _ _ _ _ _ _ _ _ _ _ _ _ _ _ _ _ ((hcond0_0 pt0).mpr h0) ((hcond0_1 pt0).mpr h1) (fun h => h2 ((hcond0_2 pt0).mp h)) (iblk m c 0 pt0) (iblk m c 1 pt0) (iblk m c 2 pt0) (iblk m c 3 pt0) (iblk m c 4 pt0) (iblk m c 5 pt0) (iblk m c 6 pt0) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rw [PhiS_pos m c _ _ (by omega)]
      unfold qAt wAt
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runB c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have ht : t.val = 4 := by omega
    have h0 : ¬t.val % 5 = 0 := by omega
    have h2 : t.val % 5 = 4 := by omega
    rw [show (dats m 0 c).leavesExact 7 t = owns (c : Thread nD τ) (ms0_7 t) fullShare ((dats m 0 c).after 7 t) from by
      unfold Dat.leavesExact; rw [idle7 t h1, flush7 t h1], after0_7]
    rw [show (dats m 0 c).leavesExact 8 t = owns (c : Thread nD τ) (ms0_8 t) fullShare ((dats m 0 c).after 8 t) from by
      unfold Dat.leavesExact; rw [live8 t h1], after0_8]
    rw [show (dats m 0 c).leavesExact 9 t = owns (c : Thread nD τ) (ms0_9 t) fullShare ((dats m 0 c).after 9 t) from by
      unfold Dat.leavesExact; rw [live9 t h1], after0_9]
    simp only [before7 m c t ht]
    rw [PhiS_pos m c _ _ (by omega)]
    unfold kAt vAt wAt
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runC c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 5 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Hand

end
-- ==== Proof.Arrays.lean ====
/- The result arrays after the kernel's run: each query head from the point whose block holds it, the key and value heads
   from the last point, and the arguments as they were. -/
module

public import proofs.«01_k».proof.Proof.Region
public import Idealize.ShloMosaic.Lib.ValueIdx

@[expose] public section

set_option maxRecDepth 16384

noncomputable section

namespace Cert.KernelIdeal.Hand
open Cert.KernelIdeal.Gen

open Idealize.ShloMosaic Idealize.ShloMosaic.TcCoe Idealize.ShloMosaic.ValueIdx
open Idealize.SL.Sem
open Idealize.ShloMosaic.Pipeline (Dat Cfg Window)

variable {F : FTy → Type} [FloatOps F]
variable (m : (ℓ : Loc nD τ sig) → Buf (Elt F) ℓ) (ρ : Dev nD → PrngReg)

/-- The grid's last point. -/
def pt4 : Fin cfg0.N := ⟨4, by rw [show cfg0.N = 5 from N_0]; decide⟩

/-- The point that stores head `n` of the query heads. -/
def headPt (n : Fin 32) : Fin cfg0.N := ⟨n.val / 8, by rw [show cfg0.N = 5 from N_0]; omega⟩

/-- The query heads after the run: head `n` is head `n % 8` of the block that point `n / 8` stores. -/
def G7 (c : Dev nD) : Buf (Elt F) ((c : Thread nD τ).loc main_v4_0) := fun (i : S1536x32x128.Idx) =>
  qAt m c (headPt (i 1)) (ix3 (i 0) ⟨(i 1).val % 8, Nat.mod_lt _ (by decide)⟩ (i 2))

/-- The query window's block is head group `min t 3`. -/
theorem idx_facts7 : ∀ t : Fin cfg0.N, win0_7.index t (0 : Fin 3) = 0 ∧ win0_7.index t (1 : Fin 3) = min t.val 3 ∧ win0_7.index t (2 : Fin 3) = 0 :=
  (by decide +kernel : ∀ t : Fin grid0.N, _)

/-- Every head group is written back by some point. -/
theorem idx_onto7 : ∀ q : Fin 4, ∃ t : Fin cfg0.N, (cfg0.win 7).flush t = true ∧ win0_7.index t (1 : Fin 3) = q.val :=
  (by decide +kernel : ∀ q : Fin 4, ∃ t : Fin grid0.N, win0_7.flush t = true ∧ win0_7.index t (1 : Fin 3) = q.val)

/-- What a point writes back of the query heads is its block of `G7`. -/
theorem flushed7_eq (c : Dev nD) (t : Fin cfg0.N) :
    (dats m 0 c).flushed 7 t = ((cfg0.win 7).blk t).view.read (Elt F) (G7 m c) := by
  show (cfg0.win 7).cut (grid0.coords t) ((dats m 0 c).after 7 t) = _
  rw [after0_7]
  obtain ⟨e0, e1, e2⟩ := idx_facts7 t
  funext y
  have hy0 : (y 0).val < 1536 := (y 0).isLt
  have hy1 : (y 1).val < 8 := (y 1).isLt
  have hy2 : (y 2).val < 128 := (y 2).isLt
  have hb0 : (((cfg0.win 7).blk t).view.emb y 0).val = win0_7.index t (0 : Fin 3) * 1536 + 1 * (y 0).val := rfl
  have hb1 : (((cfg0.win 7).blk t).view.emb y 1).val = win0_7.index t (1 : Fin 3) * 8 + 1 * (y 1).val := rfl
  have hb2 : (((cfg0.win 7).blk t).view.emb y 2).val = win0_7.index t (2 : Fin 3) * 128 + 1 * (y 2).val := rfl
  have hp : headPt (((cfg0.win 7).blk t).view.emb y 1) = qPt t := by
    apply Fin.ext
    show (((cfg0.win 7).blk t).view.emb y 1).val / 8 = min t.val 3
    rw [hb1, e1]; omega
  show qAt m c (qPt t) ((cfg0.win 7).xinj (grid0.coords t) y) = G7 m c (((cfg0.win 7).blk t).view.emb y)
  unfold G7
  rw [hp]
  congr 1
  funext a; apply Fin.ext
  match a with
  | ⟨0, _⟩ => show (y 0).val = (((cfg0.win 7).blk t).view.emb y 0).val; rw [hb0, e0]; omega
  | ⟨1, _⟩ => show (y 1).val = (((cfg0.win 7).blk t).view.emb y 1).val % 8; rw [hb1]; omega
  | ⟨2, _⟩ => show (y 2).val = (((cfg0.win 7).blk t).view.emb y 2).val; rw [hb2, e2]; omega

/-- An index of the query heads is in point `t`'s block iff each coordinate is in the block's range. -/
theorem mem_blk7 (t : Fin cfg0.N) (i : S1536x32x128.Idx) :
    i ∈ ((cfg0.win 7).blk t).view.set ↔ ∀ a : Fin 3, win0_7.index t a * S1536x8x128.size a ≤ (i a).val ∧ (i a).val < win0_7.index t a * S1536x8x128.size a + S1536x8x128.size a := by
  show i ∈ ((View.whole main_v4_0).slice (win0_7.rect t)).set ↔ _
  rw [View.set_slice_whole, Rect.mem_set_unit]
  exact Iff.rfl

/-- Every query head is in a block some point writes back. -/
theorem cover7 (i : S1536x32x128.Idx) : ∃ t : Fin cfg0.N, (cfg0.win 7).flush t = true ∧ i ∈ ((cfg0.win 7).blk t).view.set := by
  have hi0 : (i 0).val < 1536 := (i 0).isLt
  have hi1 : (i 1).val < 32 := (i 1).isLt
  have hi2 : (i 2).val < 128 := (i 2).isLt
  obtain ⟨t, hft, ht⟩ := idx_onto7 ⟨(i 1).val / 8, by omega⟩
  obtain ⟨e0, e1, e2⟩ := idx_facts7 t
  have ht' : win0_7.index t (1 : Fin 3) = (i 1).val / 8 := ht
  refine ⟨t, hft, ?_⟩
  rw [mem_blk7]
  intro a
  match a with
  | ⟨0, _⟩ => show win0_7.index t (0 : Fin 3) * 1536 ≤ (i 0).val ∧ (i 0).val < win0_7.index t (0 : Fin 3) * 1536 + 1536; omega
  | ⟨1, _⟩ => show win0_7.index t (1 : Fin 3) * 8 ≤ (i 1).val ∧ (i 1).val < win0_7.index t (1 : Fin 3) * 8 + 8; omega
  | ⟨2, _⟩ => show win0_7.index t (2 : Fin 3) * 128 ≤ (i 2).val ∧ (i 2).val < win0_7.index t (2 : Fin 3) * 128 + 128; omega

/-- The query heads after the run. -/
theorem final7 (c : Dev nD) : (dats m 0 c).arrAt 7 cfg0.N = G7 m c :=
  (dats m 0 c).arrAt_eq_of_cover 7 _ (fun t _ => flushed7_eq m c t) (fun i => cover7 i)

/-- Only the last point writes the key heads back, -/
theorem flush8_pt : ∀ t : Fin cfg0.N, (cfg0.win 8).flush t = true → t = pt4 := by decide +kernel
/-- and does. -/
theorem flush8_last : (cfg0.win 8).flush pt4 = true := by decide +kernel
/-- Only the last point writes the value heads back, -/
theorem flush9_pt : ∀ t : Fin cfg0.N, (cfg0.win 9).flush t = true → t = pt4 := by decide +kernel
/-- and does. -/
theorem flush9_last : (cfg0.win 9).flush pt4 = true := by decide +kernel

/-- The key window's block is the whole array at every point. -/
theorem idx_facts8 : ∀ t : Fin cfg0.N, ∀ a : Fin 3, win0_8.index t a = 0 :=
  (by decide +kernel : ∀ t : Fin grid0.N, _)
/-- The value window's block is the whole array at every point. -/
theorem idx_facts9 : ∀ t : Fin cfg0.N, ∀ a : Fin 3, win0_9.index t a = 0 :=
  (by decide +kernel : ∀ t : Fin grid0.N, _)

/-- The key heads after the run. -/
theorem final8 (c : Dev nD) : (dats m 0 c).arrAt 8 cfg0.N = kAt m c pt4 := by
  refine (dats m 0 c).arrAt_eq_of_cover 8 _ (fun t hf => ?_) (fun i => ⟨pt4, flush8_last, ?_⟩)
  · obtain rfl := flush8_pt t hf
    show (cfg0.win 8).cut (grid0.coords pt4) ((dats m 0 c).after 8 pt4) = _
    rw [after0_8]
    funext y
    show kAt m c pt4 ((cfg0.win 8).xinj (grid0.coords pt4) y) = kAt m c pt4 (((cfg0.win 8).blk pt4).view.emb y)
    congr 1
    funext a; apply Fin.ext
    have hb : (((cfg0.win 8).blk pt4).view.emb y a).val = win0_8.index pt4 a * S1536x4x128.size a + 1 * (y a).val := rfl
    show (y a).val = (((cfg0.win 8).blk pt4).view.emb y a).val
    rw [hb, idx_facts8]; omega
  · show i ∈ ((View.whole main_v4_1).slice (win0_8.rect pt4)).set
    rw [View.set_slice_whole, Rect.mem_set_unit]
    intro a
    have hi : (i a).val < S1536x4x128.size a := (i a).isLt
    show win0_8.index pt4 a * S1536x4x128.size a ≤ (i a).val ∧ (i a).val < win0_8.index pt4 a * S1536x4x128.size a + S1536x4x128.size a
    rw [idx_facts8]; omega

/-- The value heads after the run. -/
theorem final9 (c : Dev nD) : (dats m 0 c).arrAt 9 cfg0.N = vAt m c pt4 := by
  refine (dats m 0 c).arrAt_eq_of_cover 9 _ (fun t hf => ?_) (fun i => ⟨pt4, flush9_last, ?_⟩)
  · obtain rfl := flush9_pt t hf
    show (cfg0.win 9).cut (grid0.coords pt4) ((dats m 0 c).after 9 pt4) = _
    rw [after0_9]
    funext y
    show vAt m c pt4 ((cfg0.win 9).xinj (grid0.coords pt4) y) = vAt m c pt4 (((cfg0.win 9).blk pt4).view.emb y)
    congr 1
    funext a; apply Fin.ext
    have hb : (((cfg0.win 9).blk pt4).view.emb y a).val = win0_9.index pt4 a * S1536x4x128.size a + 1 * (y a).val := rfl
    show (y a).val = (((cfg0.win 9).blk pt4).view.emb y a).val
    rw [hb, idx_facts9]; omega
  · show i ∈ ((View.whole main_v4_2).slice (win0_9.rect pt4)).set
    rw [View.set_slice_whole, Rect.mem_set_unit]
    intro a
    have hi : (i a).val < S1536x4x128.size a := (i a).isLt
    show win0_9.index pt4 a * S1536x4x128.size a ≤ (i a).val ∧ (i a).val < win0_9.index pt4 a * S1536x4x128.size a + S1536x4x128.size a
    rw [idx_facts9]; omega

/-- The kernel's run: the query, key and value heads it leaves, and the arguments as launched. -/
theorem run : θ_run defs (onTc (τ := τ) (main (F := F))) ⟨m, fun _ => 0, ρ⟩ fun r => ∀ c : Dev nD,
      r.2.mem ((c : Thread nD τ).loc main_v4_0) = G7 m c
      ∧ r.2.mem ((c : Thread nD τ).loc main_v4_1) = kAt m c pt4
      ∧ r.2.mem ((c : Thread nD τ).loc main_v4_2) = vAt m c pt4
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final7 m c),
      ((h c).1 8).trans (final8 m c),
      ((h c).1 9).trans (final9 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Hand

end
-- ==== Proof.Spec.lean ====
/- The three results as plain functions of the argument arrays, over the extended reals: what both programs compute. -/
module

public import Idealize.ShloMosaic.Lib.ValueIdx
public import Idealize.ShloMosaic.PureOps.Ideal.Laws

@[expose] public section

noncomputable section

namespace Cert.Spec

open Idealize.ShloMosaic Idealize.ShloMosaic.ValueIdx

/-- The constant under the square root, 1e-6 as a 32-bit float. -/
abbrev eps : EReal := Ideal.ofBits .f32 0x358637BD#32

/-- Entry `k` of the row `f` divided by its root mean square (`d` is the row's length as a float) and scaled by `g`. -/
def rms {n : ℕ} (d : EReal) (f g : Fin n → EReal) (k : Fin n) : EReal :=
  f k * Ideal.rsqrt (Ideal.div (∑ l : Fin n, f l * f l) d + eps) * g k

/-- The four-bit code a packed byte holds: the low one for an even weight row, the high one for an odd row. -/
def code (b : BitVec 8) (p : ℕ) : ℕ := if p = 0 then b.toNat % 16 else b.toNat / 16

/-- Entry `(r, k)` of the normalized activations, from the activations `x` and the weight `g`. -/
def h (x : (⟨2, ![1536, 2048]⟩ : Shape).Idx → EReal) (g : Fin 2048 → EReal) (r : Fin 1536) (k : Fin 2048) : EReal :=
  rms (Ideal.ofBits .f32 0x45000000#32) (fun l => x (ix2 r l)) g k

/-- Entry `(k, n)` of the weight matrix: the code less the group's zero point, times the group's scale. -/
def w (wp : (⟨2, ![1024, 5120]⟩ : Shape).Idx → BitVec 8) (ws : (⟨2, ![16, 5120]⟩ : Shape).Idx → EReal)
    (wz : (⟨2, ![16, 5120]⟩ : Shape).Idx → BitVec 8) (k : Fin 2048) (n : Fin 5120) : EReal :=
  (((code (wp (ix2 ⟨k.val / 2, by omega⟩ n)) (k.val % 2) : ℝ) : EReal)
      - (((wz (ix2 ⟨k.val / 128, by omega⟩ n)).toNat : ℝ) : EReal))
    * ws (ix2 ⟨k.val / 128, by omega⟩ n)

/-- Entry `(r, n)` of the product of the activations `H` and the weights `W`. -/
def acc (H : Fin 1536 → Fin 2048 → EReal) (W : Fin 2048 → Fin 5120 → EReal) (r : Fin 1536) (n : Fin 5120) : EReal :=
  ∑ k : Fin 2048, H r k * W k n

/-- The activations with the batch and the position in one axis of 1536 rows. -/
def rows (x : (⟨3, ![3, 512, 2048]⟩ : Shape).Idx → EReal) : (⟨2, ![1536, 2048]⟩ : Shape).Idx → EReal :=
  fun i => x (ix3 ⟨(i 0).val / 512, by have : (i 0).val < 1536 := (i 0).isLt; omega⟩
    ⟨(i 0).val % 512, Nat.mod_lt _ (by decide)⟩ (i 1))

/-- The product of the normalized activations and the weights, from the argument arrays. -/
def prod (x : (⟨3, ![3, 512, 2048]⟩ : Shape).Idx → EReal) (g : (⟨1, ![2048]⟩ : Shape).Idx → EReal)
    (wp : (⟨2, ![1024, 5120]⟩ : Shape).Idx → BitVec 8) (ws : (⟨2, ![16, 5120]⟩ : Shape).Idx → EReal)
    (wz : (⟨2, ![16, 5120]⟩ : Shape).Idx → BitVec 8) : Fin 1536 → Fin 5120 → EReal :=
  acc (h (rows x) fun l => g (ix1 l)) (w wp ws wz)

/-- Entry `d` of query head `n` at row `r` of the product `A`: the head's 128 columns, normalized. -/
def q (A : Fin 1536 → Fin 5120 → EReal) (g : Fin 128 → EReal) (r : Fin 1536) (n : Fin 32) (d : Fin 128) : EReal :=
  rms (Ideal.ofBits .f32 0x43000000#32) (fun l : Fin 128 => A r ⟨128 * n.val + l.val, by omega⟩) g d

/-- Entry `d` of key head `n` at row `r`: the columns from 4096 on, normalized. -/
def k (A : Fin 1536 → Fin 5120 → EReal) (g : Fin 128 → EReal) (r : Fin 1536) (n : Fin 4) (d : Fin 128) : EReal :=
  rms (Ideal.ofBits .f32 0x43000000#32) (fun l : Fin 128 => A r ⟨4096 + 128 * n.val + l.val, by omega⟩) g d

/-- Entry `d` of value head `n` at row `r`: the columns from 4608 on, as they are. -/
def v (A : Fin 1536 → Fin 5120 → EReal) (r : Fin 1536) (n : Fin 4) (d : Fin 128) : EReal :=
  A r ⟨4608 + 128 * n.val + d.val, by omega⟩

end Cert.Spec

end
-- ==== Proof.Payloads.lean ====
/- What each block of the kernel's arithmetic stores, read at one entry over the extended reals. -/
module

public import proofs.«01_k».proof.Proof.Gen.KernelIdeal.Skeleton
public import proofs.«01_k».proof.Proof.Spec
public import Idealize.ShloMosaic.Lib.ValueLayout
public import Idealize.ShloMosaic.Lib.ValueLayoutCasts
public import Idealize.ShloMosaic.Lib.Pipeline.Value

@[expose] public section

set_option maxRecDepth 16384

noncomputable section

namespace Cert.KernelIdeal.Hand
open Cert.KernelIdeal.Gen

open Idealize.ShloMosaic Idealize.ShloMosaic.TcCoe Idealize.ShloMosaic.ValueIdx

/-- A matrix cast to its own shape is the matrix. -/
theorem shapeCast_same {α : Type} {a b : ℕ} (x : (⟨2, ![a, b]⟩ : Shape).Idx → α)
    (h : (⟨2, ![a, b]⟩ : Shape).ShapeCasts ⟨2, ![a, b]⟩) : shapeCast ⟨2, ![a, b]⟩ x h = x :=
  funext fun i => shapeCast_apply x h i i rfl

/-- One column broadcast over many: entry `(r, c)` is the column's entry `r`. -/
theorem broadcastTo_a1_ab_apply {α : Type} {a b : ℕ} (x : (⟨2, ![a, 1]⟩ : Shape).Idx → α)
    (h : (⟨2, ![a, 1]⟩ : Shape).Broadcasts ⟨2, ![a, b]⟩) (r : Fin a) (c : Fin b) :
    broadcastTo ⟨2, ![a, b]⟩ x h (ix2 r c) = x (ix2 r (0 : Fin 1)) := by
  refine broadcastTo_apply x h (ix2 r c) (ix2 r (0 : Fin 1)) fun ax => ?_
  match ax with
  | ⟨0, _⟩ =>
    show r.val = if a = 1 then 0 else r.val
    split
    · have := r.isLt; omega
    · rfl
  | ⟨1, _⟩ => rfl

/-- The kernel's root-mean-square normalization of the rows of `x`, as it is printed. -/
def normRows {a b : ℕ} (dbits : BitVec 32) (x : FVec Ideal ⟨2, ![a, b]⟩ .f32) (g : FVec Ideal ⟨2, ![1, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hg : (⟨2, ![1, b]⟩ : Shape).Broadcasts ⟨2, ![a, b]⟩) :
    FVec Ideal ⟨2, ![a, b]⟩ .f32 :=
  mulf (mulf x (broadcastTo ⟨2, ![a, b]⟩ (rsqrt (addf (divf (shapeCast ⟨2, ![a, 1]⟩
    (multiReduction .add [1] ⟨1, ![a]⟩ (mulf x x) 0x00000000#32 hr (.inl rfl) rfl) hc)
    (broadcast ⟨2, ![a, 1]⟩ (Scalar.ofBits .f32 dbits))) (broadcast ⟨2, ![a, 1]⟩ (Scalar.ofBits .f32 0x358637BD#32)))) hb))
    (broadcastTo ⟨2, ![a, b]⟩ g hg)

/-- Read at one entry it is the plain normalization of the row. -/
theorem normRows_apply {a b : ℕ} (dbits : BitVec 32) (x : FVec Ideal ⟨2, ![a, b]⟩ .f32) (g : FVec Ideal ⟨2, ![1, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hg : (⟨2, ![1, b]⟩ : Shape).Broadcasts ⟨2, ![a, b]⟩)
    (r : Fin a) (c : Fin b) :
    normRows dbits x g hr hc hb hg (ix2 r c)
      = Cert.Spec.rms (Ideal.ofBits .f32 dbits) (fun l => x (ix2 r l)) (fun l => g (ix2 0 l)) c := by
  have hs : multiReduction .add [1] ⟨1, ![a]⟩ (mulf x x) 0x00000000#32 hr (.inl rfl) rfl (ix1 r)
      = ∑ l : Fin b, x (ix2 r l) * x (ix2 r l) := by
    refine (Ideal.multiReduction_add_single (a := 1) (mulf x x) _ hr (.inl rfl) rfl (ix1 r)).trans ?_
    refine Finset.sum_congr rfl fun l _ => ?_
    have e : hr.lift (ix1 r) l = ix2 r l := funext fun ax => Fin.ext (by
      match ax with
      | ⟨0, _⟩ => rfl
      | ⟨1, _⟩ => rfl)
    rw [e]; rfl
  unfold normRows Cert.Spec.rms
  show x (ix2 r c) * broadcastTo _ _ hb (ix2 r c) * broadcastTo _ g hg (ix2 r c) = _
  rw [broadcastTo_a1_ab_apply, broadcastTo_1b_ab_apply]
  show x (ix2 r c) * Ideal.rsqrt (Ideal.div (shapeCast _ _ hc (ix2 r (0 : Fin 1))) _ + _) * g (ix2 0 c) = _
  rw [shapeCast_a_a1_apply, hs]
  rfl

/-- Two heads stored as one pair: the even head of the pair is the first array, the odd one the second. -/
theorem interleave_apply (lo hi : FVec Ideal S512x128 .bf16) (hb : S512x2x128.Bitcasts 16 S512x1x128 32)
    (r : Fin 512) (p : Fin 2) (d : Fin 128) :
    interleaveRows S512x2x128 (shapeCast S512x1x128 lo shapeCasts_S512x128_S512x1x128)
        (shapeCast S512x1x128 hi shapeCasts_S512x128_S512x1x128) hb (ix3 r p d)
      = if p.val = 0 then lo (ix2 r d) else hi (ix2 r d) := by
  have key : ∀ (x : FVec Ideal S512x128 .bf16) (j : S512x1x128.Idx), (j 0).val = r.val → (j 2).val = d.val →
      shapeCast S512x1x128 x shapeCasts_S512x128_S512x1x128 j = x (ix2 r d) := fun x j h0 h2 =>
    shapeCast_apply x _ _ _ (by
      rw [Shape.rowMajor_val_two, Shape.rowMajor_val_three]
      have h1 : (j 1).val = 0 := by have : (j 1).val < 1 := (j 1).isLt; omega
      show r.val * 128 + d.val = ((j 0).val * 1 + (j 1).val) * 128 + (j 2).val
      rw [h0, h1, h2]; omega)
  unfold interleaveRows
  have hp : S512x2x128.row (ix3 r p d) = p.val := rfl
  have hp2 : p.val < 2 := p.isLt
  dsimp only
  rw [hp]
  by_cases h0 : p.val = 0
  · rw [if_pos (by omega), if_pos h0]
    exact key _ _ rfl rfl
  · rw [if_neg (by omega), if_neg h0]
    exact key _ _ rfl rfl

/-- The row of the left operand a product's entry reads. -/
theorem dot_lhs_row (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide),
    dif_pos (show (0 : Fin S512x2048.rank) ∈ dot_S512x2048_S2048x256_S512x256_1_0_0_1_n_n.lhsNonContracting by decide)]
  rfl

/-- The column of the right operand a product's entry reads. -/
theorem dot_rhs_col (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide),
    dif_pos (show (1 : Fin S2048x256.rank) ∈ dot_S512x2048_S2048x256_S512x256_1_0_0_1_n_n.rhsNonContracting by decide)]
  rfl

/-- The product of a block of rows and a pair of heads' columns at one entry: the sum over the 2048 inner positions. -/
theorem dot_apply (x : FVec Ideal S512x2048 .bf16) (y : FVec Ideal S2048x256 .bf16) (r : Fin 512) (c : Fin 256) :
    matmul dot_S512x2048_S2048x256_S512x256_1_0_0_1_n_n none x y (constant S512x256 .f32 0x00000000#32) (ix2 r c)
      = ∑ k : Fin 2048, x (ix2 r k) * y (ix2 k c) := by
  simp only [matmul]
  rw [Ideal.matmul_constant_zero_apply,
    ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 r c)
      ((contrEquiv1 dot_S512x2048_S2048x256_S512x256_1_0_0_1_n_n 2048 rfl rfl).symm k) = ix2 r k :=
    funext fun a => Fin.ext (by
      match a with
      | ⟨0, _⟩ => exact dot_lhs_row _ _
      | ⟨1, _⟩ => exact (dot_S512x2048_S2048x256_S512x256_1_0_0_1_n_n.lhsIdx_val_of_single rfl _ _).trans hk)
  have er : dot_S512x2048_S2048x256_S512x256_1_0_0_1_n_n.rhsIdx (ix2 r c)
      ((contrEquiv1 dot_S512x2048_S2048x256_S512x256_1_0_0_1_n_n 2048 rfl rfl).symm k) = ix2 k c :=
    funext fun a => Fin.ext (by
      match a with
      | ⟨0, _⟩ => exact (dot_S512x2048_S2048x256_S512x256_1_0_0_1_n_n.rhsIdx_val_of_single rfl _ _).trans hk
      | ⟨1, _⟩ => exact dot_rhs_col _ _)
  rw [el, er]

/-- Entry `(r, 128 p + d)` of the product of a block of rows and a pair of heads' columns. -/
def pairDot (x : FVec Ideal S512x2048 .bf16) (y : FVec Ideal S2048x256 .bf16) (r : Fin 512) (p : Fin 2) (d : Fin 128) :
    EReal :=
  ∑ k : Fin 2048, x (ix2 r k) * y (ix2 k ⟨128 * p.val + d.val, by omega⟩)

/-- The first head's columns of the product. -/
theorem half_lo (x : FVec Ideal S512x2048 .bf16) (y : FVec Ideal S2048x256 .bf16) (r : Fin 512) (d : Fin 128) :
    extractStridedSlice S512x128 ![0, 0] (matmul dot_S512x2048_S2048x256_S512x256_1_0_0_1_n_n none x y
        (constant S512x256 .f32 0x00000000#32)) slices_S512x256_o0_0_S512x128 (ix2 r d) = pairDot x y r 0 d := by
  rw [extractStridedSlice_apply _ _ _ _ (ix2 r ⟨d.val, by omega⟩) (fun a => by
    match a with
    | ⟨0, _⟩ => exact (Nat.zero_add _).symm
    | ⟨1, _⟩ => exact (Nat.zero_add _).symm), dot_apply]
  refine Finset.sum_congr rfl fun k _ => ?_
  congr 2
  exact congrArg (ix2 k) (Fin.ext (by show d.val = 128 * 0 + d.val; omega))

/-- The second head's columns of the product. -/
theorem half_hi (x : FVec Ideal S512x2048 .bf16) (y : FVec Ideal S2048x256 .bf16) (r : Fin 512) (d : Fin 128) :
    extractStridedSlice S512x128 ![0, 128] (matmul dot_S512x2048_S2048x256_S512x256_1_0_0_1_n_n none x y
        (constant S512x256 .f32 0x00000000#32)) slices_S512x256_o0_128_S512x128 (ix2 r d) = pairDot x y r 1 d := by
  rw [extractStridedSlice_apply _ _ _ _ (ix2 r ⟨128 + d.val, by omega⟩) (fun a => by
    match a with
    | ⟨0, _⟩ => exact (Nat.zero_add _).symm
    | ⟨1, _⟩ => rfl), dot_apply]
  rfl

/-- A query block's entry: the head's columns of the product, normalized. -/
theorem pay2_apply (g : FVec Ideal S1x128 .f32) (x : FVec Ideal S512x2048 .bf16) (y : FVec Ideal S2048x256 .bf16)
    (r : Fin 512) (p : Fin 2) (d : Fin 128) :
    k0_pay2 (F := Ideal) g x y (ix3 r p d)
      = Cert.Spec.rms (Ideal.ofBits .f32 0x43000000#32) (fun l => pairDot x y r p l) (fun l => g (ix2 0 l)) d := by
  have e : k0_pay2 (F := Ideal) g x y
      = interleaveRows S512x2x128
        (shapeCast S512x1x128 (truncf .bf16 (normRows 0x43000000#32
          (extractStridedSlice S512x128 ![0, 0] (matmul dot_S512x2048_S2048x256_S512x256_1_0_0_1_n_n none x y
            (constant S512x256 .f32 0x00000000#32)) slices_S512x256_o0_0_S512x128)
          (shapeCast S1x128 g shapeCasts_S1x128_S1x128) reduces_S512x128_S512 shapeCasts_S512_S512x1
          broadcasts_S512x1_S512x128 broadcasts_S1x128_S512x128)) shapeCasts_S512x128_S512x1x128)
        (shapeCast S512x1x128 (truncf .bf16 (normRows 0x43000000#32
          (extractStridedSlice S512x128 ![0, 128] (matmul dot_S512x2048_S2048x256_S512x256_1_0_0_1_n_n none x y
            (constant S512x256 .f32 0x00000000#32)) slices_S512x256_o0_128_S512x128)
          (shapeCast S1x128 g shapeCasts_S1x128_S1x128) reduces_S512x128_S512 shapeCasts_S512_S512x1
          broadcasts_S512x1_S512x128 broadcasts_S1x128_S512x128)) shapeCasts_S512x128_S512x1x128)
        bitcasts_S512x2x128_w16_S512x1x128_w32 := rfl
  rw [e, interleave_apply, shapeCast_same]
  by_cases h0 : p.val = 0
  · rw [if_pos h0]
    obtain rfl : p = 0 := Fin.ext h0
    refine (normRows_apply _ _ _ _ _ _ _ r d).trans ?_
    simp only [half_lo]
  · rw [if_neg h0]
    obtain rfl : p = 1 := Fin.ext (by have := p.isLt; show p.val = 1; omega)
    refine (normRows_apply _ _ _ _ _ _ _ r d).trans ?_
    simp only [half_hi]

/-- A key block's entry is computed as a query block's is. -/
theorem pay6_apply (g : FVec Ideal S1x128 .f32) (x : FVec Ideal S512x2048 .bf16) (y : FVec Ideal S2048x256 .bf16)
    (r : Fin 512) (p : Fin 2) (d : Fin 128) :
    k0_pay6 (F := Ideal) g x y (ix3 r p d)
      = Cert.Spec.rms (Ideal.ofBits .f32 0x43000000#32) (fun l => pairDot x y r p l) (fun l => g (ix2 0 l)) d :=
  pay2_apply g x y r p d

/-- A value block's entry: the head's columns of the product. -/
theorem pay8_apply (x : FVec Ideal S512x2048 .bf16) (y : FVec Ideal S2048x256 .bf16) (r : Fin 512) (p : Fin 2) (d : Fin 128) :
    k0_pay8 (F := Ideal) x y (ix3 r p d) = pairDot x y r p d := by
  unfold k0_pay8
  rw [interleave_apply]
  by_cases h0 : p.val = 0
  · rw [if_pos h0]
    obtain rfl : p = 0 := Fin.ext h0
    exact half_lo x y r d
  · rw [if_neg h0]
    obtain rfl : p = 1 := Fin.ext (by have := p.isLt; show p.val = 1; omega)
    exact half_hi x y r d

/-- A block of the activations' entry: its row normalized. -/
theorem pay11_apply (g : FVec Ideal S1x2048 .f32) (x : FVec Ideal S128x2048 .bf16) (r : Fin 128) (c : Fin 2048) :
    k0_pay11 (F := Ideal) g x (ix2 r c)
      = Cert.Spec.rms (Ideal.ofBits .f32 0x45000000#32) (fun l => x (ix2 r l)) (fun l => g (ix2 0 l)) c := by
  have e : k0_pay11 (F := Ideal) g x
      = shapeCast S128x2048 (truncf .bf16 (normRows 0x45000000#32
          (extf .f32 (shapeCast S128x2048 x shapeCasts_S128x2048_S128x2048) bitsLt_bf16_f32)
          (shapeCast S1x2048 g shapeCasts_S1x2048_S1x2048) reduces_S128x2048_S128 shapeCasts_S128_S128x1
          broadcasts_S128x1_S128x2048 broadcasts_S1x2048_S128x2048) bitsLt_bf16_f32) shapeCasts_S128x2048_S128x2048 := rfl
  rw [e, shapeCast_same, shapeCast_same, shapeCast_same]
  exact normRows_apply _ _ _ _ _ _ _ r c

/-- The signed four-bit code the kernel reads from a byte's low half is the code less eight. -/
theorem low_code (b : BitVec 8) :
    (IntOp.shrsi .vector (IntOp.shli .vector ((IntOp.xori b 136#8).setWidth 32) 28#32) 28#32).toInt
      = (b.toNat % 16 : ℕ) - 8 := by
  revert b; decide +kernel

/-- And from its high half. -/
theorem high_code (b : BitVec 8) :
    (IntOp.shrsi .vector (IntOp.shli .vector ((IntOp.xori b 136#8).setWidth 32) 24#32) 28#32).toInt
      = (b.toNat / 16 : ℕ) - 8 := by
  revert b; decide +kernel

/-- The float the kernel subtracts from a zero point is eight. -/
theorem eight : Ideal.ofBits .bf16 0x4100#16 = ((8 : ℝ) : EReal) := by
  simp [Ideal.ofBits, Ideal.ieee, -EReal.coe_mul]; norm_num

/-- A code and a zero point, each less eight, differ by what the code and the zero point do. -/
theorem sub_eight (c z : ℕ) :
    ((((c : ℤ) - 8 : ℤ) : ℝ) : EReal) - (((z : ℝ) : EReal) - ((8 : ℝ) : EReal))
      = ((c : ℝ) : EReal) - ((z : ℝ) : EReal) := by
  rw [← EReal.coe_sub, ← EReal.coe_sub, ← EReal.coe_sub]
  congr 1
  push_cast
  ring

/-- Two arrays of 64 rows interleaved row by row: an even row is the first array's, an odd row the second's. -/
theorem stack_apply (lo hi : IVec S64x1024 32) (r : Fin 128) (c : Fin 1024) :
    shapeCast S128x1024 (concatenate S64x2x1024 1 [⟨S64x1x1024, shapeCast S64x1x1024 lo shapeCasts_S64x1024_S64x1x1024⟩,
        ⟨S64x1x1024, shapeCast S64x1x1024 hi shapeCasts_S64x1024_S64x1x1024⟩]
        concatenates_S64x1x1024_S64x1x1024_S64x2x1024_d1) shapeCasts_S64x2x1024_S128x1024 (ix2 r c)
      = if r.val % 2 = 0 then lo (ix2 ⟨r.val / 2, by omega⟩ c) else hi (ix2 ⟨r.val / 2, by omega⟩ c) := by
  have key : ∀ x : IVec S64x1024 32, shapeCast S64x1x1024 x shapeCasts_S64x1024_S64x1x1024
      (ix3 (⟨r.val / 2, by omega⟩ : Fin 64) (0 : Fin 1) c) = x (ix2 ⟨r.val / 2, by omega⟩ c) := fun x =>
    shapeCast_apply x _ _ _ (by
      rw [Shape.rowMajor_val_two, Shape.rowMajor_val_three]
      show r.val / 2 * 1024 + c.val = (r.val / 2 * 1 + 0) * 1024 + c.val
      omega)
  rw [shapeCast_apply _ _ _ (ix3 (⟨r.val / 2, by omega⟩ : Fin 64) (⟨r.val % 2, by omega⟩ : Fin 2) c) (by
      rw [Shape.rowMajor_val_two, Shape.rowMajor_val_three]
      show (r.val / 2 * 2 + r.val % 2) * 1024 + c.val = r.val * 1024 + c.val
      omega)]
  by_cases h0 : r.val % 2 = 0
  · rw [if_pos h0, ← key lo]
    exact concatenate_pair_apply_left (s₁ := S64x1x1024) (s₂ := S64x1x1024) (t := S64x2x1024) _ _ _ _ _ rfl (ix3 (⟨r.val / 2, by omega⟩ : Fin 64) (0 : Fin 1) c) (fun a => by
      match a with
      | ⟨0, _⟩ => rfl
      | ⟨1, _⟩ => exact h0.symm
      | ⟨2, _⟩ => rfl)
  · rw [if_neg h0, ← key hi]
    exact concatenate_pair_apply_right (s₁ := S64x1x1024) (s₂ := S64x1x1024) (t := S64x2x1024) _ _ _ _ _ rfl rfl (ix3 (⟨r.val / 2, by omega⟩ : Fin 64) (0 : Fin 1) c) (fun a ha => by
      match a, ha with
      | ⟨0, _⟩, _ => rfl
      | ⟨1, _⟩, ha => exact absurd rfl ha
      | ⟨2, _⟩, _ => rfl) (by show 0 + 1 = r.val % 2; omega)

/-- A group of weights' entry: the code less the zero point, times the scale. -/
theorem pay29_apply (wp : IVec S64x1024 8) (wz : IVec S1x1024 8) (ws : FVec Ideal S1x1024 .bf16) (r : Fin 128) (c : Fin 1024) :
    k0_pay29 (F := Ideal) wp wz ws (ix2 r c)
      = (((Cert.Spec.code (wp (ix2 ⟨r.val / 2, by omega⟩ c)) (r.val % 2) : ℝ) : EReal)
          - (((wz (ix2 0 c)).toNat : ℝ) : EReal)) * ws (ix2 0 c) := by
  unfold k0_pay29
  rw [shapeCast_same]
  have e : ∀ (C : IVec S128x1024 32) (Z : FVec Ideal S1x1024 .bf16),
      mulf (subf (sitofp .bf16 C) (broadcastTo S128x1024 Z broadcasts_S1x1024_S128x1024))
          (broadcastTo S128x1024 ws broadcasts_S1x1024_S128x1024) (ix2 r c)
        = ((((C (ix2 r c)).toInt : ℝ) : EReal) - Z (ix2 0 c)) * ws (ix2 0 c) := fun C Z => by
    show ((((C (ix2 r c)).toInt : ℝ) : EReal) - broadcastTo S128x1024 Z _ (ix2 r c)) * broadcastTo S128x1024 ws _ (ix2 r c) = _
    rw [broadcastTo_1b_ab_apply, broadcastTo_1b_ab_apply]
  refine (e _ _).trans ?_
  rw [stack_apply]
  have hcode : ((if r.val % 2 = 0
        then IntOp.shrsi .vector (IntOp.shli .vector ((IntOp.xori (wp (ix2 ⟨r.val / 2, by omega⟩ c)) 136#8).setWidth 32) 28#32) 28#32
        else IntOp.shrsi .vector (IntOp.shli .vector ((IntOp.xori (wp (ix2 ⟨r.val / 2, by omega⟩ c)) 136#8).setWidth 32) 24#32) 28#32).toInt : ℤ)
      = (Cert.Spec.code (wp (ix2 ⟨r.val / 2, by omega⟩ c)) (r.val % 2) : ℤ) - 8 := by
    unfold Cert.Spec.code
    by_cases h0 : r.val % 2 = 0
    · rw [if_pos h0, if_pos h0, low_code]
    · rw [if_neg h0, if_neg h0, high_code]
  refine congrArg (· * ws (ix2 0 c)) ?_
  refine Eq.trans ?_ (sub_eight _ _)
  rw [← hcode, ← eight]
  rfl

end Cert.KernelIdeal.Hand

end
-- ==== Proof.KernelValue.lean ====
/- The kernel's result arrays, over the extended reals, are the plain functions of the arguments. -/
module

public import proofs.«01_k».proof.Proof.Arrays
public import proofs.«01_k».proof.Proof.Payloads
public import Idealize.ShloMosaic.Lib.Claim

@[expose] public section

set_option maxRecDepth 16384

noncomputable section

namespace Cert.KernelIdeal.Hand
open Cert.KernelIdeal.Gen

open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (c : Dev nD)

/-- A grid point is one of five. -/
theorem pt_lt (t : Fin cfg0.N) : t.val < 5 := lt_of_lt_of_eq t.isLt N_0

/-! ## The blocks the body is given -/

/-- Window 0's block is its whole array. -/
theorem idx_facts0 : ∀ t : Fin cfg0.N, ∀ a : Fin 2, win0_0.index t a = 0 :=
  (by decide +kernel : ∀ t : Fin grid0.N, _)
/-- Window 1's block is its whole array. -/
theorem idx_facts1 : ∀ t : Fin cfg0.N, ∀ a : Fin 2, win0_1.index t a = 0 :=
  (by decide +kernel : ∀ t : Fin grid0.N, _)
/-- Window 2's block at point `t` is column block `t`. -/
theorem idx_facts2 : ∀ t : Fin cfg0.N, win0_2.index t (0 : Fin 2) = 0 ∧ win0_2.index t (1 : Fin 2) = t.val :=
  (by decide +kernel : ∀ t : Fin grid0.N, _)
/-- Window 3's block at point `t` is column block `t`. -/
theorem idx_facts3 : ∀ t : Fin cfg0.N, win0_3.index t (0 : Fin 2) = 0 ∧ win0_3.index t (1 : Fin 2) = t.val :=
  (by decide +kernel : ∀ t : Fin grid0.N, _)
/-- Window 4's block at point `t` is column block `t`. -/
theorem idx_facts4 : ∀ t : Fin cfg0.N, win0_4.index t (0 : Fin 2) = 0 ∧ win0_4.index t (1 : Fin 2) = t.val :=
  (by decide +kernel : ∀ t : Fin grid0.N, _)
/-- Window 5's block is its whole array. -/
theorem idx_facts5 : ∀ t : Fin cfg0.N, ∀ a : Fin 2, win0_5.index t a = 0 :=
  (by decide +kernel : ∀ t : Fin grid0.N, _)
/-- Window 6's block is its whole array. -/
theorem idx_facts6 : ∀ t : Fin cfg0.N, ∀ a : Fin 2, win0_6.index t a = 0 :=
  (by decide +kernel : ∀ t : Fin grid0.N, _)

/-- The activations' block at one entry: the argument, its batch and position in one axis. -/
theorem iblk0_apply (t : Fin cfg0.N) (r : Fin 1536) (k : Fin 2048) :
    (iblk m c 0 t : S1536x2048.Idx → EReal) (ix2 r k) = Cert.Spec.rows (m ((c : Thread nD τ).loc main_arg0)) (ix2 r k) := by
  have e : ((cfg0.win 0).blk t).view.emb (ix2 r k) = ix2 r k := funext fun a => Fin.ext (by
    match a with
    | ⟨0, _⟩ => show win0_0.index t (0 : Fin 2) * 1536 + 1 * r.val = r.val; rw [idx_facts0]; omega
    | ⟨1, _⟩ => show win0_0.index t (1 : Fin 2) * 2048 + 1 * k.val = k.val; rw [idx_facts0]; omega)
  show V m c main_v0 (((cfg0.win 0).blk t).view.emb (ix2 r k)) = _
  rw [e]
  entry_read
  exact shapeCast_apply (s := S3x512x2048) (t := S1536x2048) _ _ _ _ (by
    rw [Shape.rowMajor_val_three, Shape.rowMajor_val_two]
    show (r.val / 512 * 512 + r.val % 512) * 2048 + k.val = r.val * 2048 + k.val
    omega)

/-- The activations' scales' block at one entry. -/
theorem iblk1_apply (t : Fin cfg0.N) (k : Fin 2048) :
    (iblk m c 1 t : S1x2048.Idx → EReal) (ix2 0 k) = (m ((c : Thread nD τ).loc main_arg1) : S2048.Idx → EReal) (ix1 k) := by
  have e : ((cfg0.win 1).blk t).view.emb (ix2 0 k) = ix2 0 k := funext fun a => Fin.ext (by
    match a with
    | ⟨0, _⟩ => show win0_1.index t (0 : Fin 2) * 1 + 1 * 0 = 0; rw [idx_facts1]
    | ⟨1, _⟩ => show win0_1.index t (1 : Fin 2) * 2048 + 1 * k.val = k.val; rw [idx_facts1]; omega)
  show V m c main_v1 (((cfg0.win 1).blk t).view.emb (ix2 0 k)) = _
  rw [e]
  entry_read
  exact shapeCast_apply (s := S2048) (t := S1x2048) _ _ _ _ (by
    rw [Shape.rowMajor_val_one, Shape.rowMajor_val_two]
    show k.val = 0 * 2048 + k.val
    omega)

/-- The query scales' block at one entry. -/
theorem iblk5_apply (t : Fin cfg0.N) (k : Fin 128) :
    (iblk m c 5 t : S1x128.Idx → EReal) (ix2 0 k) = (m ((c : Thread nD τ).loc main_arg5) : S128.Idx → EReal) (ix1 k) := by
  have e : ((cfg0.win 5).blk t).view.emb (ix2 0 k) = ix2 0 k := funext fun a => Fin.ext (by
    match a with
    | ⟨0, _⟩ => show win0_5.index t (0 : Fin 2) * 1 + 1 * 0 = 0; rw [idx_facts5]
    | ⟨1, _⟩ => show win0_5.index t (1 : Fin 2) * 128 + 1 * k.val = k.val; rw [idx_facts5]; omega)
  show V m c main_v2 (((cfg0.win 5).blk t).view.emb (ix2 0 k)) = _
  rw [e]
  entry_read
  exact shapeCast_apply (s := S128) (t := S1x128) _ _ _ _ (by
    rw [Shape.rowMajor_val_one, Shape.rowMajor_val_two]
    show k.val = 0 * 128 + k.val
    omega)

/-- The key scales' block at one entry. -/
theorem iblk6_apply (t : Fin cfg0.N) (k : Fin 128) :
    (iblk m c 6 t : S1x128.Idx → EReal) (ix2 0 k) = (m ((c : Thread nD τ).loc main_arg6) : S128.Idx → EReal) (ix1 k) := by
  have e : ((cfg0.win 6).blk t).view.emb (ix2 0 k) = ix2 0 k := funext fun a => Fin.ext (by
    match a with
    | ⟨0, _⟩ => show win0_6.index t (0 : Fin 2) * 1 + 1 * 0 = 0; rw [idx_facts6]
    | ⟨1, _⟩ => show win0_6.index t (1 : Fin 2) * 128 + 1 * k.val = k.val; rw [idx_facts6]; omega)
  show V m c main_v3 (((cfg0.win 6).blk t).view.emb (ix2 0 k)) = _
  rw [e]
  entry_read
  exact shapeCast_apply (s := S128) (t := S1x128) _ _ _ _ (by
    rw [Shape.rowMajor_val_one, Shape.rowMajor_val_two]
    show k.val = 0 * 128 + k.val
    omega)

/-- Column `b` of column block `t`. -/
def col (t : Fin cfg0.N) (b : Fin 1024) : Fin 5120 := ⟨1024 * t.val + b.val, by have := pt_lt t; omega⟩

/-- The packed weights' block at one entry. -/
theorem iblk2_apply (t : Fin cfg0.N) (a b : Fin 1024) :
    (iblk m c 2 t : S1024x1024.Idx → BitVec 8) (ix2 a b) = (m ((c : Thread nD τ).loc main_arg2) : S1024x5120.Idx → BitVec 8) (ix2 a (col t b)) := by
  have e : ((cfg0.win 2).blk t).view.emb (ix2 a b) = ix2 a (col t b) := funext fun x => Fin.ext (by
    match x with
    | ⟨0, _⟩ => show win0_2.index t (0 : Fin 2) * 1024 + 1 * a.val = a.val; rw [(idx_facts2 t).1]; omega
    | ⟨1, _⟩ => show win0_2.index t (1 : Fin 2) * 1024 + 1 * b.val = 1024 * t.val + b.val; rw [(idx_facts2 t).2]; omega)
  show V m c main_arg2 (((cfg0.win 2).blk t).view.emb (ix2 a b)) = _
  rw [e, V_main_arg2]

/-- The scales' block at one entry. -/
theorem iblk3_apply (t : Fin cfg0.N) (a : Fin 16) (b : Fin 1024) :
    (iblk m c 3 t : S16x1024.Idx → EReal) (ix2 a b) = (m ((c : Thread nD τ).loc main_arg3) : S16x5120.Idx → EReal) (ix2 a (col t b)) := by
  have e : ((cfg0.win 3).blk t).view.emb (ix2 a b) = ix2 a (col t b) := funext fun x => Fin.ext (by
    match x with
    | ⟨0, _⟩ => show win0_3.index t (0 : Fin 2) * 16 + 1 * a.val = a.val; rw [(idx_facts3 t).1]; omega
    | ⟨1, _⟩ => show win0_3.index t (1 : Fin 2) * 1024 + 1 * b.val = 1024 * t.val + b.val; rw [(idx_facts3 t).2]; omega)
  show V m c main_arg3 (((cfg0.win 3).blk t).view.emb (ix2 a b)) = _
  rw [e, V_main_arg3]

/-- The zero points' block at one entry. -/
theorem iblk4_apply (t : Fin cfg0.N) (a : Fin 16) (b : Fin 1024) :
    (iblk m c 4 t : S16x1024.Idx → BitVec 8) (ix2 a b) = (m ((c : Thread nD τ).loc main_arg4) : S16x5120.Idx → BitVec 8) (ix2 a (col t b)) := by
  have e : ((cfg0.win 4).blk t).view.emb (ix2 a b) = ix2 a (col t b) := funext fun x => Fin.ext (by
    match x with
    | ⟨0, _⟩ => show win0_4.index t (0 : Fin 2) * 16 + 1 * a.val = a.val; rw [(idx_facts4 t).1]; omega
    | ⟨1, _⟩ => show win0_4.index t (1 : Fin 2) * 1024 + 1 * b.val = 1024 * t.val + b.val; rw [(idx_facts4 t).2]; omega)
  show V m c main_arg4 (((cfg0.win 4).blk t).view.emb (ix2 a b)) = _
  rw [e, V_main_arg4]

/-! ## The activations, the weights and their product -/

/-- The normalized activations at one entry. -/
theorem hAt_apply (r : Fin 1536) (k : Fin 2048) :
    (hAt m c : S1536x2048.Idx → EReal) (ix2 r k)
      = Cert.Spec.h (Cert.Spec.rows (m ((c : Thread nD τ).loc main_arg0)))
          (fun l => (m ((c : Thread nD τ).loc main_arg1) : S2048.Idx → EReal) (ix1 l)) r k := by
  refine (pay11_apply _ _ _ _).trans ?_
  unfold Cert.Spec.h
  congr 1
  · funext l
    refine (iblk0_apply m c pt0 _ _).trans (congrArg (fun r' => Cert.Spec.rows _ (ix2 r' l)) (Fin.ext ?_))
    show 128 * (r.val / 128) + r.val % 128 = r.val
    omega
  · funext l
    exact iblk1_apply m c pt0 l

/-- The weights of column block `t` at one entry. -/
theorem wAt_apply (t : Fin cfg0.N) (k : Fin 2048) (b : Fin 1024) :
    (wAt m c t : S2048x1024.Idx → EReal) (ix2 k b)
      = Cert.Spec.w (m ((c : Thread nD τ).loc main_arg2)) (m ((c : Thread nD τ).loc main_arg3))
          (m ((c : Thread nD τ).loc main_arg4)) k (col t b) := by
  refine (pay29_apply _ _ _ _ _).trans ?_
  have h2 := iblk2_apply m c t ⟨64 * (k.val / 128) + k.val % 128 / 2, by omega⟩ b
  have h3 := iblk3_apply m c t ⟨k.val / 128, by omega⟩ b
  have h4 := iblk4_apply m c t ⟨k.val / 128, by omega⟩ b
  have e : (⟨64 * (k.val / 128) + k.val % 128 / 2, by omega⟩ : Fin 1024) = ⟨k.val / 2, by omega⟩ := Fin.ext (by
    show 64 * (k.val / 128) + k.val % 128 / 2 = k.val / 2; omega)
  rw [e] at h2
  have ep : k.val % 128 % 2 = k.val % 2 := by omega
  unfold Cert.Spec.w
  rw [← h2, ← h3, ← h4, ← ep]
  exact congrArg (fun j : Fin 1024 =>
    (((Cert.Spec.code ((iblk m c 2 t : S1024x1024.Idx → BitVec 8) (ix2 j b)) (k.val % 128 % 2) : ℝ) : EReal)
      - ((((iblk m c 4 t : S16x1024.Idx → BitVec 8) (ix2 ⟨k.val / 128, by omega⟩ b)).toNat : ℝ) : EReal))
    * (iblk m c 3 t : S16x1024.Idx → EReal) (ix2 ⟨k.val / 128, by omega⟩ b)) e

/-- The product of a third of the rows and a pair of heads' columns at one entry. -/
theorem pairDot_apply (t : Fin cfg0.N) (a p : ℕ) (ha : a < 3) (hp : p < 4) (r : Fin 512) (q : Fin 2) (d : Fin 128)
    (R : Fin 1536) (N : Fin 5120) (hR : R.val = 512 * a + r.val) (hN : N.val = 1024 * t.val + 256 * p + 128 * q.val + d.val) :
    pairDot (hRows (hAt m c) a ha) (wCols (wAt m c t) p hp) r q d
      = Cert.Spec.prod (m ((c : Thread nD τ).loc main_arg0)) (m ((c : Thread nD τ).loc main_arg1))
          (m ((c : Thread nD τ).loc main_arg2)) (m ((c : Thread nD τ).loc main_arg3)) (m ((c : Thread nD τ).loc main_arg4)) R N := by
  unfold pairDot Cert.Spec.prod Cert.Spec.acc
  refine Finset.sum_congr rfl fun k _ => ?_
  have eh : hRows (hAt m c) a ha (ix2 r k) = (hAt m c : S1536x2048.Idx → EReal) (ix2 R k) := by
    show (hAt m c : S1536x2048.Idx → EReal) (ix2 ⟨512 * a + r.val, _⟩ k) = _
    congr 2; exact Fin.ext hR.symm
  have ew : wCols (wAt m c t) p hp (ix2 k ⟨128 * q.val + d.val, by omega⟩)
      = (wAt m c t : S2048x1024.Idx → EReal) (ix2 k ⟨256 * p + (128 * q.val + d.val), by omega⟩) := rfl
  rw [eh, ew, hAt_apply, wAt_apply]
  congr 2
  exact Fin.ext (by show 1024 * t.val + (256 * p + (128 * q.val + d.val)) = N.val; omega)

/-! ## The results -/

/-- Rows and scales equal at every entry have the same normalization. -/
theorem rms_congr {n : ℕ} (d : EReal) {f f' g g' : Fin n → EReal} (hf : ∀ l, f l = f' l) (hg : ∀ l, g l = g' l) (k : Fin n) :
    Cert.Spec.rms d f g k = Cert.Spec.rms d f' g' k := by
  obtain rfl := funext hf; obtain rfl := funext hg; rfl

/-- The query heads the kernel leaves. -/
theorem q_eq : (G7 m c : S1536x32x128.Idx → EReal) = fun i => Cert.Spec.q
    (Cert.Spec.prod (m ((c : Thread nD τ).loc main_arg0)) (m ((c : Thread nD τ).loc main_arg1))
      (m ((c : Thread nD τ).loc main_arg2)) (m ((c : Thread nD τ).loc main_arg3)) (m ((c : Thread nD τ).loc main_arg4)))
    (fun l => (m ((c : Thread nD τ).loc main_arg5) : S128.Idx → EReal) (ix1 l)) (i 0) (i 1) (i 2) := by
  funext i
  obtain ⟨r, n, d, rfl⟩ : ∃ r n d, i = ix3 r n d := ⟨_, _, _, eq_ix3 i⟩
  refine (pay2_apply _ _ _ _ _ _).trans ?_
  refine rms_congr _ (fun l => ?_) (fun l => iblk5_apply m c _ l) d
  exact pairDot_apply m c _ _ _ _ _ _ _ _ _ _
    (by show r.val = 512 * (r.val / 512) + r.val % 512; omega)
    (by show 128 * n.val + l.val = 1024 * (n.val / 8) + 256 * (n.val % 8 / 2) + 128 * (n.val % 8 % 2) + l.val; omega)

/-- The key heads the kernel leaves. -/
theorem k_eq : (kAt m c pt4 : S1536x4x128.Idx → EReal) = fun i => Cert.Spec.k
    (Cert.Spec.prod (m ((c : Thread nD τ).loc main_arg0)) (m ((c : Thread nD τ).loc main_arg1))
      (m ((c : Thread nD τ).loc main_arg2)) (m ((c : Thread nD τ).loc main_arg3)) (m ((c : Thread nD τ).loc main_arg4)))
    (fun l => (m ((c : Thread nD τ).loc main_arg6) : S128.Idx → EReal) (ix1 l)) (i 0) (i 1) (i 2) := by
  funext i
  obtain ⟨r, n, d, rfl⟩ : ∃ r n d, i = ix3 r n d := ⟨_, _, _, eq_ix3 i⟩
  refine (pay6_apply _ _ _ _ _ _).trans ?_
  refine rms_congr _ (fun l => ?_) (fun l => iblk6_apply m c _ l) d
  exact pairDot_apply m c _ _ _ _ _ _ _ _ _ _
    (by show r.val = 512 * (r.val / 512) + r.val % 512; omega)
    (by show 4096 + 128 * n.val + l.val = 1024 * 4 + 256 * (n.val / 2) + 128 * (n.val % 2) + l.val; omega)

/-- The value heads the kernel leaves. -/
theorem v_eq : (vAt m c pt4 : S1536x4x128.Idx → EReal) = fun i => Cert.Spec.v
    (Cert.Spec.prod (m ((c : Thread nD τ).loc main_arg0)) (m ((c : Thread nD τ).loc main_arg1))
      (m ((c : Thread nD τ).loc main_arg2)) (m ((c : Thread nD τ).loc main_arg3)) (m ((c : Thread nD τ).loc main_arg4)))
    (i 0) (i 1) (i 2) := by
  funext i
  obtain ⟨r, n, d, rfl⟩ : ∃ r n d, i = ix3 r n d := ⟨_, _, _, eq_ix3 i⟩
  refine (pay8_apply _ _ _ _ _).trans ?_
  exact pairDot_apply m c _ _ _ _ _ _ _ _ _ _
    (by show r.val = 512 * (r.val / 512) + r.val % 512; omega)
    (by show 4608 + 128 * n.val + d.val = 1024 * 4 + 256 * (2 + n.val / 2) + 128 * (n.val % 2) + d.val; omega)

end Cert.KernelIdeal.Hand

end
-- ==== Proof.ReferenceValue.lean ====
/- The reference's results, over the extended reals, are the plain functions of the arguments. -/
module

public import proofs.«01_k».proof.Proof.Gen.ReferenceIdeal.Read
public import proofs.«01_k».proof.Proof.Spec
public import Idealize.ShloMosaic.Lib.ValueLayout
public import Idealize.ShloMosaic.Lib.Pipeline.Value

@[expose] public section

set_option maxRecDepth 16384

noncomputable section

namespace Cert.ReferenceIdeal.Hand
open Cert.ReferenceIdeal.Read

open Idealize.ShloMosaic Idealize.ShloMosaic.TcCoe Idealize.ShloMosaic.ValueIdx

variable (x0 : (⟨S3x512x2048, .bf16⟩ : BufTy).Contents (Elt Ideal)) (x1 : (⟨S2048, .f32⟩ : BufTy).Contents (Elt Ideal))
  (x2 : (⟨S1024x5120, .i8⟩ : BufTy).Contents (Elt Ideal)) (x3 : (⟨S16x5120, .bf16⟩ : BufTy).Contents (Elt Ideal))
  (x4 : (⟨S16x5120, .i8⟩ : BufTy).Contents (Elt Ideal)) (x5 x6 : (⟨S128, .f32⟩ : BufTy).Contents (Elt Ideal))

/-- Row `512 b + s` of the activations is batch `b`, position `s`. -/
theorem rows_apply (b : Fin 3) (s : Fin 512) (l : Fin 2048) (r : Fin 1536) (hr : r.val = 512 * b.val + s.val) :
    Cert.Spec.rows x0 (ix2 r l) = x0 (ix3 b s l) := by
  unfold Cert.Spec.rows
  congr 1
  have e1 : (⟨r.val / 512, by omega⟩ : Fin 3) = b := Fin.ext (by show r.val / 512 = b.val; omega)
  have e2 : (⟨r.val % 512, Nat.mod_lt _ (by decide)⟩ : Fin 512) = s := Fin.ext (by show r.val % 512 = s.val; omega)
  exact congrArg₂ (fun b' s' => ix3 b' s' l) e1 e2

/-- The reference's normalized activations at one entry. -/
theorem h_apply (b : Fin 3) (s : Fin 512) (k : Fin 2048) (r : Fin 1536) (hr : r.val = 512 * b.val + s.val) :
    val_main_v14 (F := Ideal) x0 x1 (ix3 b s k) = Cert.Spec.h (Cert.Spec.rows x0) (fun l => x1 (ix1 l)) r k := by
  have hs : ∀ l : Fin 2048, idx_main_v2 (idx_main_v3 (idx_main_v9 (ix3 b s k))) l = ix3 b s l :=
    fun l => (eq_ix3 _).trans rfl
  have hg : idx_main_v11 (idx_main_v12 (ix3 b s k)) = ix1 k := (eq_ix1 _).trans rfl
  have sq : ∀ l : Fin 2048, val_main_v1 (F := Ideal) x0 (ix3 b s l) = x0 (ix3 b s l) * x0 (ix3 b s l) := fun l => rfl
  rw [val_main_v14_apply, val_main_v13_apply, val_main_v10_apply, val_main_v9_apply, val_main_v8_apply, val_main_v7_apply,
    val_main_v5_apply, val_main_v3_apply, val_main_v2_apply, val_main_v4_apply, val_main_v6_apply, val_main_v12_apply,
    val_main_v11_apply, hg]
  simp only [hs, sq]
  rw [show val_main_cst (F := Ideal) (Shape.Idx.first Gen.h_S_) = 0 from Ideal.ofBits_zero_f32, zero_add]
  unfold Cert.Spec.h Cert.Spec.rms
  simp only [rows_apply x0 b s _ r hr]
  rfl

/-- The low four bits of a byte, as the reference reads them. -/
theorem low_nibble (b : BitVec 8) : (IntOp.andi (b.setWidth 32) 15#32).toInt = (b.toNat % 16 : ℕ) := by
  revert b; decide +kernel

/-- The high four bits of a byte, as the reference reads them. -/
theorem high_nibble (b : BitVec 8) : (IntOp.shrsi .host (b.setWidth 32) 4#32).toInt = (b.toNat / 16 : ℕ) := by
  revert b; decide +kernel

/-- A byte read as a 32-bit integer. -/
theorem byte_toInt (b : BitVec 8) : (b.setWidth 32).toInt = b.toNat := by
  revert b; decide +kernel

/-- The unpacked codes at one entry. -/
theorem codes_apply (j : Fin 1024) (p : Fin 2) (n : Fin 5120) :
    (val_main_v22 (F := Ideal) x2 (ix3 j p n)).toInt = (Cert.Spec.code (x2 (ix2 j n)) p.val : ℤ) := by
  unfold val_main_v22 Cert.Spec.code
  have h2 : p.val < 2 := p.isLt
  by_cases h0 : p.val = 0
  · rw [if_pos h0]
    refine (congrArg BitVec.toInt (concatenate_pair_apply_left (s₁ := S1024x1x5120) (s₂ := S1024x1x5120) (t := S1024x2x5120)
      _ _ _ _ _ rfl (ix3 j (0 : Fin 1) n) (fun a => by
        match a with
        | ⟨0, _⟩ => rfl
        | ⟨1, _⟩ => exact h0.symm
        | ⟨2, _⟩ => rfl))).trans ?_
    rw [val_main_v20_apply, show idx_main_v20 (ix3 j (0 : Fin 1) n) = ix2 j n from (eq_ix2 _).trans rfl]
    exact low_nibble (x2 (ix2 j n))
  · rw [if_neg h0]
    refine (congrArg BitVec.toInt (concatenate_pair_apply_right (s₁ := S1024x1x5120) (s₂ := S1024x1x5120) (t := S1024x2x5120)
      _ _ _ _ _ rfl rfl (ix3 j (0 : Fin 1) n) (fun a ha => by
        match a, ha with
        | ⟨0, _⟩, _ => rfl
        | ⟨1, _⟩, ha => exact absurd rfl ha
        | ⟨2, _⟩, _ => rfl) (by show 0 + 1 = p.val; omega))).trans ?_
    rw [val_main_v21_apply, show idx_main_v21 (ix3 j (0 : Fin 1) n) = ix2 j n from (eq_ix2 _).trans rfl]
    exact high_nibble (x2 (ix2 j n))

/-- The reference's weights at one entry. -/
theorem w_apply (k : Fin 2048) (n : Fin 5120) :
    val_main_v33 (F := Ideal) x2 x3 x4 (ix2 k n) = Cert.Spec.w x2 x3 x4 k n := by
  have e33 : idx_main_v33 (ix2 k n) = ix3 (⟨k.val / 128, by omega⟩ : Fin 16) (⟨k.val % 128, by omega⟩ : Fin 128) n := by
    refine (eq_ix3 _).trans ?_
    congr 1
    · exact Fin.ext (by show (k.val * 5120 + n.val) / 655360 = k.val / 128; omega)
    · exact Fin.ext (by show (k.val * 5120 + n.val) / 5120 % 128 = k.val % 128; omega)
    · exact Fin.ext (by show (k.val * 5120 + n.val) % 5120 = n.val; omega)
  have e23 : idx_main_v23 (ix3 (⟨k.val / 128, by omega⟩ : Fin 16) (⟨k.val % 128, by omega⟩ : Fin 128) n)
      = ix3 (⟨k.val / 2, by omega⟩ : Fin 1024) (⟨k.val % 2, by omega⟩ : Fin 2) n := by
    refine (eq_ix3 _).trans ?_
    congr 1
    · exact Fin.ext (by show ((k.val / 128 * 128 + k.val % 128) * 5120 + n.val) / 10240 = k.val / 2; omega)
    · exact Fin.ext (by show ((k.val / 128 * 128 + k.val % 128) * 5120 + n.val) / 5120 % 2 = k.val % 2; omega)
    · exact Fin.ext (by show ((k.val / 128 * 128 + k.val % 128) * 5120 + n.val) % 5120 = n.val; omega)
  have e27 : idx_main_v27 (idx_main_v29 (ix3 (⟨k.val / 128, by omega⟩ : Fin 16) (⟨k.val % 128, by omega⟩ : Fin 128) n))
      = ix2 (⟨k.val / 128, by omega⟩ : Fin 16) n := (eq_ix2 _).trans rfl
  have e28 : idx_main_v28 (idx_main_v31 (ix3 (⟨k.val / 128, by omega⟩ : Fin 16) (⟨k.val % 128, by omega⟩ : Fin 128) n))
      = ix2 (⟨k.val / 128, by omega⟩ : Fin 16) n := (eq_ix2 _).trans rfl
  have hc := codes_apply x2 ⟨k.val / 2, by omega⟩ ⟨k.val % 2, by omega⟩ n
  have hz := byte_toInt (x4 (ix2 (⟨k.val / 128, by omega⟩ : Fin 16) n))
  rw [val_main_v33_apply, e33, val_main_v32_apply, val_main_v30_apply, val_main_v24_apply, val_main_v23_apply, e23,
    val_main_v29_apply, val_main_v27_apply, e27, val_main_v26_apply, val_main_v31_apply, val_main_v28_apply, e28]
  show ((((val_main_v22 (F := Ideal) x2 (ix3 (⟨k.val / 2, by omega⟩ : Fin 1024) (⟨k.val % 2, by omega⟩ : Fin 2) n)).toInt : ℝ) : EReal)
      - ((((x4 (ix2 (⟨k.val / 128, by omega⟩ : Fin 16) n)).setWidth 32).toInt : ℝ) : EReal)) * x3 (ix2 (⟨k.val / 128, by omega⟩ : Fin 16) n) = _
  rw [hc, hz]
  unfold Cert.Spec.w
  rw [Int.cast_natCast, Int.cast_natCast]

/-- The reference's product at one entry. -/
theorem prod_apply (b : Fin 3) (s : Fin 512) (n : Fin 5120) (r : Fin 1536) (hr : r.val = 512 * b.val + s.val) :
    val_main_v34 (F := Ideal) x0 x1 x2 x3 x4 (ix3 b s n) = Cert.Spec.prod x0 x1 x2 x3 x4 r n := by
  rw [val_main_v34_apply]
  unfold Cert.Spec.prod Cert.Spec.acc
  refine Finset.sum_congr rfl fun k _ => ?_
  rw [show lidx_main_v34 (ix3 b s n) k = ix3 b s k from (eq_ix3 _).trans rfl,
    show ridx_main_v34 (ix3 b s n) k = ix2 k n from (eq_ix2 _).trans rfl, h_apply x0 x1 b s k r hr, w_apply]

/-- The query heads' columns of the product. -/
theorem qcol_apply (b : Fin 3) (s : Fin 512) (n : Fin 32) (d : Fin 128) (r : Fin 1536) (hr : r.val = 512 * b.val + s.val)
    (N : Fin 5120) (hN : N.val = 0 + 128 * n.val + d.val) :
    val_main_v36 (F := Ideal) x0 x1 x2 x3 x4 (ix4 b s n d) = Cert.Spec.prod x0 x1 x2 x3 x4 r N := by
  rw [val_main_v36_apply, val_main_v35_apply, ← prod_apply x0 x1 x2 x3 x4 b s N r hr]
  refine congrArg _ ((eq_ix3 _).trans ?_)
  congr 1
  · exact Fin.ext (by show (((b.val * 512 + s.val) * 32 + n.val) * 128 + d.val) / 2097152 = b.val; omega)
  · exact Fin.ext (by show (((b.val * 512 + s.val) * 32 + n.val) * 128 + d.val) / 4096 % 512 = s.val; omega)
  · exact Fin.ext (by show (((b.val * 512 + s.val) * 32 + n.val) * 128 + d.val) % 4096 = N.val; omega)

/-- The key heads' columns of the product. -/
theorem kcol_apply (b : Fin 3) (s : Fin 512) (n : Fin 4) (d : Fin 128) (r : Fin 1536) (hr : r.val = 512 * b.val + s.val)
    (N : Fin 5120) (hN : N.val = 4096 + 128 * n.val + d.val) :
    val_main_v38 (F := Ideal) x0 x1 x2 x3 x4 (ix4 b s n d) = Cert.Spec.prod x0 x1 x2 x3 x4 r N := by
  rw [val_main_v38_apply, val_main_v37_apply, ← prod_apply x0 x1 x2 x3 x4 b s N r hr]
  refine congrArg _ ((eq_ix3 _).trans ?_)
  congr 1
  · exact Fin.ext (by show (((b.val * 512 + s.val) * 4 + n.val) * 128 + d.val) / 262144 = b.val; omega)
  · exact Fin.ext (by show (((b.val * 512 + s.val) * 4 + n.val) * 128 + d.val) / 512 % 512 = s.val; omega)
  · exact Fin.ext (by show 4096 + (((b.val * 512 + s.val) * 4 + n.val) * 128 + d.val) % 512 = N.val; omega)

/-- The value heads' columns of the product. -/
theorem vcol_apply (b : Fin 3) (s : Fin 512) (n : Fin 4) (d : Fin 128) (r : Fin 1536) (hr : r.val = 512 * b.val + s.val)
    (N : Fin 5120) (hN : N.val = 4608 + 128 * n.val + d.val) :
    val_main_v40 (F := Ideal) x0 x1 x2 x3 x4 (ix4 b s n d) = Cert.Spec.prod x0 x1 x2 x3 x4 r N := by
  rw [val_main_v40_apply, val_main_v39_apply, ← prod_apply x0 x1 x2 x3 x4 b s N r hr]
  refine congrArg _ ((eq_ix3 _).trans ?_)
  congr 1
  · exact Fin.ext (by show (((b.val * 512 + s.val) * 4 + n.val) * 128 + d.val) / 262144 = b.val; omega)
  · exact Fin.ext (by show (((b.val * 512 + s.val) * 4 + n.val) * 128 + d.val) / 512 % 512 = s.val; omega)
  · exact Fin.ext (by show 4608 + (((b.val * 512 + s.val) * 4 + n.val) * 128 + d.val) % 512 = N.val; omega)

/-- The normalized query heads at one entry. -/
theorem qnorm_apply (b : Fin 3) (s : Fin 512) (n : Fin 32) (d : Fin 128) :
    val_main_v53 (F := Ideal) x0 x1 x2 x3 x4 x5 (ix4 b s n d)
      = Cert.Spec.rms (Ideal.ofBits .f32 0x43000000#32)
          (fun l => val_main_v36 (F := Ideal) x0 x1 x2 x3 x4 (ix4 b s n l)) (fun l => x5 (ix1 l)) d := by
  have hs : ∀ l : Fin 128, idx_main_v42 (idx_main_v43 (idx_main_v49 (ix4 b s n d))) l = ix4 b s n l :=
    fun l => (eq_ix4 _).trans rfl
  have hg : idx_main_v51 (idx_main_v52 (ix4 b s n d)) = ix1 d := (eq_ix1 _).trans rfl
  have sq : ∀ l : Fin 128, val_main_v41 (F := Ideal) x0 x1 x2 x3 x4 (ix4 b s n l)
      = val_main_v36 (F := Ideal) x0 x1 x2 x3 x4 (ix4 b s n l) * val_main_v36 (F := Ideal) x0 x1 x2 x3 x4 (ix4 b s n l) :=
    fun l => rfl
  rw [val_main_v53_apply, val_main_v50_apply, val_main_v49_apply, val_main_v48_apply, val_main_v47_apply,
    val_main_v45_apply, val_main_v43_apply, val_main_v42_apply, val_main_v44_apply, val_main_v46_apply,
    val_main_v52_apply, val_main_v51_apply, hg]
  simp only [hs, sq]
  rw [show val_main_cst_3 (F := Ideal) (Shape.Idx.first Gen.h_S_) = 0 from Ideal.ofBits_zero_f32, zero_add]
  rfl

/-- The normalized key heads at one entry. -/
theorem knorm_apply (b : Fin 3) (s : Fin 512) (n : Fin 4) (d : Fin 128) :
    val_main_v66 (F := Ideal) x0 x1 x2 x3 x4 x6 (ix4 b s n d)
      = Cert.Spec.rms (Ideal.ofBits .f32 0x43000000#32)
          (fun l => val_main_v38 (F := Ideal) x0 x1 x2 x3 x4 (ix4 b s n l)) (fun l => x6 (ix1 l)) d := by
  have hs : ∀ l : Fin 128, idx_main_v55 (idx_main_v56 (idx_main_v62 (ix4 b s n d))) l = ix4 b s n l :=
    fun l => (eq_ix4 _).trans rfl
  have hg : idx_main_v64 (idx_main_v65 (ix4 b s n d)) = ix1 d := (eq_ix1 _).trans rfl
  have sq : ∀ l : Fin 128, val_main_v54 (F := Ideal) x0 x1 x2 x3 x4 (ix4 b s n l)
      = val_main_v38 (F := Ideal) x0 x1 x2 x3 x4 (ix4 b s n l) * val_main_v38 (F := Ideal) x0 x1 x2 x3 x4 (ix4 b s n l) :=
    fun l => rfl
  rw [val_main_v66_apply, val_main_v63_apply, val_main_v62_apply, val_main_v61_apply, val_main_v60_apply,
    val_main_v58_apply, val_main_v56_apply, val_main_v55_apply, val_main_v57_apply, val_main_v59_apply,
    val_main_v65_apply, val_main_v64_apply, hg]
  simp only [hs, sq]
  rw [show val_main_cst_6 (F := Ideal) (Shape.Idx.first Gen.h_S_) = 0 from Ideal.ofBits_zero_f32, zero_add]
  rfl

/-- The reference's query heads. -/
theorem q_eq : val_main_v70 (F := Ideal) x0 x1 x2 x3 x4 x5
    = fun i => Cert.Spec.q (Cert.Spec.prod x0 x1 x2 x3 x4) (fun l => x5 (ix1 l)) (i 0) (i 1) (i 2) := by
  funext i
  obtain ⟨r, n, d, rfl⟩ : ∃ r n d, i = ix3 r n d := ⟨_, _, _, eq_ix3 i⟩
  have e : idx_main_v70 (ix3 r n d) = ix4 (⟨r.val / 512, by omega⟩ : Fin 3) (⟨r.val % 512, by omega⟩ : Fin 512) n d := by
    refine (eq_ix4 _).trans ?_
    congr 1
    · exact Fin.ext (by show ((r.val * 32 + n.val) * 128 + d.val) / 2097152 = r.val / 512; omega)
    · exact Fin.ext (by show ((r.val * 32 + n.val) * 128 + d.val) / 4096 % 512 = r.val % 512; omega)
    · exact Fin.ext (by show ((r.val * 32 + n.val) * 128 + d.val) / 128 % 32 = n.val; omega)
    · exact Fin.ext (by show ((r.val * 32 + n.val) * 128 + d.val) % 128 = d.val; omega)
  rw [val_main_v70_apply, e, val_main_v67_apply]
  refine (qnorm_apply x0 x1 x2 x3 x4 x5 _ _ n d).trans ?_
  unfold Cert.Spec.q
  exact congrArg (fun f => Cert.Spec.rms _ f _ d) (funext fun l => qcol_apply x0 x1 x2 x3 x4 _ _ n l r
    (by show r.val = 512 * (r.val / 512) + r.val % 512; omega) _ (by show 128 * n.val + l.val = 0 + 128 * n.val + l.val; omega))

/-- The reference's key heads. -/
theorem k_eq : val_main_v71 (F := Ideal) x0 x1 x2 x3 x4 x6
    = fun i => Cert.Spec.k (Cert.Spec.prod x0 x1 x2 x3 x4) (fun l => x6 (ix1 l)) (i 0) (i 1) (i 2) := by
  funext i
  obtain ⟨r, n, d, rfl⟩ : ∃ r n d, i = ix3 r n d := ⟨_, _, _, eq_ix3 i⟩
  have e : idx_main_v71 (ix3 r n d) = ix4 (⟨r.val / 512, by omega⟩ : Fin 3) (⟨r.val % 512, by omega⟩ : Fin 512) n d := by
    refine (eq_ix4 _).trans ?_
    congr 1
    · exact Fin.ext (by show ((r.val * 4 + n.val) * 128 + d.val) / 262144 = r.val / 512; omega)
    · exact Fin.ext (by show ((r.val * 4 + n.val) * 128 + d.val) / 512 % 512 = r.val % 512; omega)
    · exact Fin.ext (by show ((r.val * 4 + n.val) * 128 + d.val) / 128 % 4 = n.val; omega)
    · exact Fin.ext (by show ((r.val * 4 + n.val) * 128 + d.val) % 128 = d.val; omega)
  rw [val_main_v71_apply, e, val_main_v68_apply]
  refine (knorm_apply x0 x1 x2 x3 x4 x6 _ _ n d).trans ?_
  unfold Cert.Spec.k
  exact congrArg (fun f => Cert.Spec.rms _ f _ d) (funext fun l => kcol_apply x0 x1 x2 x3 x4 _ _ n l r
    (by show r.val = 512 * (r.val / 512) + r.val % 512; omega) _ rfl)

/-- The reference's value heads. -/
theorem v_eq : val_main_v72 (F := Ideal) x0 x1 x2 x3 x4
    = fun i => Cert.Spec.v (Cert.Spec.prod x0 x1 x2 x3 x4) (i 0) (i 1) (i 2) := by
  funext i
  obtain ⟨r, n, d, rfl⟩ : ∃ r n d, i = ix3 r n d := ⟨_, _, _, eq_ix3 i⟩
  have e : idx_main_v72 (ix3 r n d) = ix4 (⟨r.val / 512, by omega⟩ : Fin 3) (⟨r.val % 512, by omega⟩ : Fin 512) n d := by
    refine (eq_ix4 _).trans ?_
    congr 1
    · exact Fin.ext (by show ((r.val * 4 + n.val) * 128 + d.val) / 262144 = r.val / 512; omega)
    · exact Fin.ext (by show ((r.val * 4 + n.val) * 128 + d.val) / 512 % 512 = r.val % 512; omega)
    · exact Fin.ext (by show ((r.val * 4 + n.val) * 128 + d.val) / 128 % 4 = n.val; omega)
    · exact Fin.ext (by show ((r.val * 4 + n.val) * 128 + d.val) % 128 = d.val; omega)
  rw [val_main_v72_apply, e, val_main_v69_apply]
  exact vcol_apply x0 x1 x2 x3 x4 _ _ n d r (by show r.val = 512 * (r.val / 512) + r.val % 512; omega) _ rfl

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Lib.Bf16Pair
public import Idealize.ShloMosaic.Adequacy
public import Idealize.ShloMosaic.Init
public import proofs.«01_k».proof.Proof.KernelFrame
public import proofs.«01_k».proof.Proof.Arrays
public import proofs.«01_k».proof.Proof.KernelValue
public import proofs.«01_k».proof.Proof.ReferenceValue

@[expose] public section

noncomputable section

namespace Cert.Proof

open Idealize.ShloMosaic Idealize.SL.Sem

/-- The idealized kernel's frame: its arguments end unchanged and every semaphore counter ends at zero. -/
theorem frame_kernelIdeal : Cert.quiescent_KernelIdeal := fun m ρ _ =>
  θ_run_and
    (Cert.KernelIdeal.Gen.frame_of m ρ (Cert.KernelIdeal.Hand.dats m) (Cert.KernelIdeal.Hand.A_eq m)
      (Cert.KernelIdeal.Hand.run_main m ρ))
    ((θ_run Cert.KernelIdeal.defs _ _).mono (fun _ h => h.2) (Cert.KernelIdeal.Hand.run_main_quiescent m ρ))

/-- The reference's frame: its run leaves the arguments unchanged, and it declares no semaphore. -/
theorem frame_referenceIdeal : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The reference's q, of arguments equal to the kernel's, is the kernel's q: both are `Cert.Spec.q`. -/
theorem agree_q (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Read.val_main_v70 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      = Cert.KernelIdeal.Hand.G7 m c := by
  rw [h0, h1, h2, h3, h4, h5]
  exact (Cert.ReferenceIdeal.Hand.q_eq _ _ _ _ _ _).trans (Cert.KernelIdeal.Hand.q_eq m c).symm

/-- The reference's k, of arguments equal to the kernel's, is the kernel's k: both are `Cert.Spec.k`. -/
theorem agree_k (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Read.val_main_v71 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg6))
      = Cert.KernelIdeal.Hand.kAt m c Cert.KernelIdeal.Hand.pt4 := by
  rw [h0, h1, h2, h3, h4, h6]
  exact (Cert.ReferenceIdeal.Hand.k_eq _ _ _ _ _ _).trans (Cert.KernelIdeal.Hand.k_eq m c).symm

/-- The reference's v, of arguments equal to the kernel's, is the kernel's v: both are `Cert.Spec.v`. -/
theorem agree_v (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Read.val_main_v72 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      = Cert.KernelIdeal.Hand.vAt m c Cert.KernelIdeal.Hand.pt4 := by
  rw [h0, h1, h2, h3, h4]
  exact (Cert.ReferenceIdeal.Hand.v_eq _ _ _ _ _).trans (Cert.KernelIdeal.Hand.v_eq m c).symm

/-- From equal arguments the idealized kernel and the reference end with equal q, k and v, their arguments unchanged. -/
theorem algebraic : Cert.algebraic_KernelIdeal_ReferenceIdeal := by
  intro m g m' g' _ hagree
  refine ⟨fun c => Cert.KernelIdeal.Hand.G7 m c, fun c => Cert.KernelIdeal.Hand.kAt m c Cert.KernelIdeal.Hand.pt4,
    fun c => Cert.KernelIdeal.Hand.vAt m c Cert.KernelIdeal.Hand.pt4, Cert.KernelIdeal.Hand.run m g, ?_⟩
  refine (θ_run Cert.ReferenceIdeal.defs _ _).mono (fun r h c => ?_) (Cert.ReferenceIdeal.Value.run (F := Ideal) m' g')
  obtain ⟨h0, h1, h2, h3, h4, h5, h6⟩ := hagree c
  obtain ⟨hq, hk, hv, hargs⟩ := h c
  exact ⟨(hq.trans (Cert.ReferenceIdeal.Read.val_main_v70_eq m' c)).trans (agree_q m m' c h0 h1 h2 h3 h4 h5),
    (hk.trans (Cert.ReferenceIdeal.Read.val_main_v71_eq m' c)).trans (agree_k m m' c h0 h1 h2 h3 h4 h6),
    (hv.trans (Cert.ReferenceIdeal.Read.val_main_v72_eq _ _ _ _ _)).trans (agree_v m m' c h0 h1 h2 h3 h4), hargs⟩

/-- The claim: the three frames, that the idealized kernel is the kernel's sanctioned idealization (the one rewritten
    operation is the packing of two bf16 values in one 32-bit word), and the equality of all three results. -/
theorem claim : Cert.Claim := ⟨Cert.Kernel.Gen.facts, Cert.KernelIdeal.Gen.facts, Cert.ReferenceIdeal.Gen.facts,
  fun m ρ _ => Cert.Kernel.Hand.frame m ρ, frame_kernelIdeal, frame_referenceIdeal,
  ⟨IdealRules.bf16_pair.packStatement _, IdealRules.bf16_pair.statement _ _ (by decide)⟩, algebraic⟩

end Cert.Proof

end
